-- ==== Defs.lean ====
def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v0_0) = v0 c
          ∧ r.2.mem ((c.tc : Thread Cert.MidRefIdeal.nD Cert.MidRefIdeal.τ).loc Cert.MidRefIdeal.main_v0_1) = v1 c
          ∧ r.2.mem ((c.tc : Thread Cert.MidRefIdeal.nD Cert.MidRefIdeal.τ).loc Cert.MidRefIdeal.main_v0_2) = v2 c
          ∧ r.2.mem ((c.tc : Thread Cert.MidRefIdeal.nD Cert.MidRefIdeal.τ).loc Cert.MidRefIdeal.main_v0_3) = v3 c
          ∧ r.2.mem ((c.tc : Thread Cert.MidRefIdeal.nD Cert.MidRefIdeal.τ).loc Cert.MidRefIdeal.main_v0_4) = v4 c
          ∧ r.2.mem ((c.tc : Thread Cert.MidRefIdeal.nD Cert.MidRefIdeal.τ).loc Cert.MidRefIdeal.main_v0_5) = v5 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Bwd_BwdIdeal : Prop :=
  IdealRules.named_const.Statement Cert.BwdIdeal.κ "score_scale" .f32 0x3DD53B94#32 ((58612965992495 / 562949953421312 : ℝ) : EReal)

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)) →
    ∃ (v0 : (c : Dev Cert.BwdIdeal.nD) → Buf (Elt Ideal) ((c.tc : Thread Cert.BwdIdeal.nD Cert.BwdIdeal.τ).loc Cert.BwdIdeal.main_v1_0)) (v1 : (c : Dev Cert.BwdIdeal.nD) → Buf (Elt Ideal) ((c.tc : Thread Cert.BwdIdeal.nD Cert.BwdIdeal.τ).loc Cert.BwdIdeal.main_v1_1)) (v2 : (c : Dev Cert.BwdIdeal.nD) → Buf (Elt Ideal) ((c.tc : Thread Cert.BwdIdeal.nD Cert.BwdIdeal.τ).loc Cert.BwdIdeal.main_v1_2)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v1_0) = v0 c
          ∧ r.2.mem ((c.tc : Thread Cert.BwdIdeal.nD Cert.BwdIdeal.τ).loc Cert.BwdIdeal.main_v1_1) = v1 c
          ∧ r.2.mem ((c.tc : Thread Cert.BwdIdeal.nD Cert.BwdIdeal.τ).loc Cert.BwdIdeal.main_v1_2) = v2 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v27) = v0 c
          ∧ r.2.mem ((c.tc : Thread Cert.BwdRefIdeal.nD Cert.BwdRefIdeal.τ).loc Cert.BwdRefIdeal.main_v28) = v1 c
          ∧ r.2.mem ((c.tc : Thread Cert.BwdRefIdeal.nD Cert.BwdRefIdeal.τ).loc Cert.BwdRefIdeal.main_v18) = v2 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5))

def preserves_Dx_DxIdeal : Prop :=
  IdealRules.named_const.Statement Cert.DxIdeal.κ "inv_d" .f32 0x39124925#32 ((1 / 7168 : ℝ) : EReal)

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v23) = v0 c
          ∧ r.2.mem ((c.tc : Thread Cert.DxRefIdeal.nD Cert.DxRefIdeal.τ).loc Cert.DxRefIdeal.main_v6) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def Claim : Prop :=
  ∃ (hMid : Cert.Mid.Facts) (hMidIdeal : Cert.MidIdeal.Facts) (hMidRefIdeal : Cert.MidRefIdeal.Facts) (hBwd : Cert.Bwd.Facts) (hBwdIdeal : Cert.BwdIdeal.Facts) (hBwdRefIdeal : Cert.BwdRefIdeal.Facts) (hDx : Cert.Dx.Facts) (hDxIdeal : Cert.DxIdeal.Facts) (hDxRefIdeal : Cert.DxRefIdeal.Facts),
    quiescent_Mid (hMid := hMid)
    ∧ quiescent_MidIdeal (hMidIdeal := hMidIdeal)
    ∧ quiescent_MidRefIdeal (hMidRefIdeal := hMidRefIdeal)
    ∧ quiescent_Bwd (hBwd := hBwd)
    ∧ quiescent_BwdIdeal (hBwdIdeal := hBwdIdeal)
    ∧ quiescent_BwdRefIdeal (hBwdRefIdeal := hBwdRefIdeal)
    ∧ quiescent_Dx (hDx := hDx)
    ∧ quiescent_DxIdeal (hDxIdeal := hDxIdeal)
    ∧ quiescent_DxRefIdeal (hDxRefIdeal := hDxRefIdeal)
    ∧ preserves_Mid_MidIdeal
    ∧ algebraic_MidIdeal_MidRefIdeal (hMidIdeal := hMidIdeal) (hMidRefIdeal := hMidRefIdeal)
    ∧ preserves_Bwd_BwdIdeal
    ∧ algebraic_BwdIdeal_BwdRefIdeal (hBwdIdeal := hBwdIdeal) (hBwdRefIdeal := hBwdRefIdeal)
    ∧ preserves_Dx_DxIdeal
    ∧ algebraic_DxIdeal_DxRefIdeal (hDxIdeal := hDxIdeal) (hDxRefIdeal := hDxRefIdeal)
-- ==== Mid.lean ====
abbrev S8192x7168 : Shape := ⟨2, ![8192, 7168]⟩
abbrev S8192x512 : Shape := ⟨2, ![8192, 512]⟩
abbrev S512x8192 : Shape := ⟨2, ![512, 8192]⟩
abbrev S4x1x8192 : Shape := ⟨3, ![4, 1, 8192]⟩
abbrev S512x7168 : Shape := ⟨2, ![512, 7168]⟩
abbrev S4x7168 : Shape := ⟨2, ![4, 7168]⟩
abbrev S8192x56 : Shape := ⟨2, ![8192, 56]⟩
abbrev S8192x4 : Shape := ⟨2, ![8192, 4]⟩
abbrev S256x7168 : Shape := ⟨2, ![256, 7168]⟩
abbrev S256x512 : Shape := ⟨2, ![256, 512]⟩
abbrev S512x256 : Shape := ⟨2, ![512, 256]⟩
abbrev S4x1x256 : Shape := ⟨3, ![4, 1, 256]⟩
abbrev S256x56 : Shape := ⟨2, ![256, 56]⟩
abbrev S256x4 : Shape := ⟨2, ![256, 4]⟩
abbrev S128x7168 : Shape := ⟨2, ![128, 7168]⟩
abbrev S1x7168 : Shape := ⟨2, ![1, 7168]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x256 : Shape := ⟨3, ![1, 1, 256]⟩
abbrev S4x256 : Shape := ⟨2, ![4, 256]⟩
abbrev S8x256 : Shape := ⟨2, ![8, 256]⟩
abbrev S256x8 : Shape := ⟨2, ![256, 8]⟩

abbrev nBuf : Space → Nat
  | .hbm => 12
  | .vmem => 24
  | .smem => 0
  | _ => 0

abbrev bufTy : (tb : Table) → Fin (tcTables nBuf tb) → BufTy
  | .hbm, ⟨0, _⟩ => ⟨S8192x7168, .bf16⟩
  | .hbm, ⟨1, _⟩ => ⟨S8192x512, .bf16⟩
  | .hbm, ⟨2, _⟩ => ⟨S512x8192, .f32⟩
  | .hbm, ⟨3, _⟩ => ⟨S4x1x8192, .f32⟩
  | .hbm, ⟨4, _⟩ => ⟨S512x7168, .fp8e4m3⟩
  | .hbm, ⟨5, _⟩ => ⟨S4x7168, .f32⟩
  | .hbm, ⟨6, _⟩ => ⟨S8192x7168, .bf16⟩
  | .hbm, ⟨7, _⟩ => ⟨S8192x7168, .fp8e4m3⟩
  | .hbm, ⟨8, _⟩ => ⟨S8192x56, .f32⟩
  | .hbm, ⟨9, _⟩ => ⟨S512x8192, .bf16⟩
  | .hbm, ⟨10, _⟩ => ⟨S4x1x8192, .f32⟩
  | .hbm, ⟨11, _⟩ => ⟨S8192x4, .f32⟩
  | .local _ .vmem, ⟨0, _⟩ => ⟨S256x7168, .bf16⟩
  | .local _ .vmem, ⟨1, _⟩ => ⟨S256x7168, .bf16⟩
  | .local _ .vmem, ⟨2, _⟩ => ⟨S256x512, .bf16⟩
  | .local _ .vmem, ⟨3, _⟩ => ⟨S256x512, .bf16⟩
  | .local _ .vmem, ⟨4, _⟩ => ⟨S512x256, .f32⟩
  | .local _ .vmem, ⟨5, _⟩ => ⟨S512x256, .f32⟩
  | .local _ .vmem, ⟨6, _⟩ => ⟨S4x1x256, .f32⟩
  | .local _ .vmem, ⟨7, _⟩ => ⟨S4x1x256, .f32⟩
  | .local _ .vmem, ⟨8, _⟩ => ⟨S512x7168, .fp8e4m3⟩
  | .local _ .vmem, ⟨9, _⟩ => ⟨S4x7168, .f32⟩
  | .local _ .vmem, ⟨10, _⟩ => ⟨S256x7168, .bf16⟩
  | .local _ .vmem, ⟨11, _⟩ => ⟨S256x7168, .bf16⟩
  | .local _ .vmem, ⟨12, _⟩ => ⟨S256x7168, .fp8e4m3⟩
  | .local _ .vmem, ⟨13, _⟩ => ⟨S256x7168, .fp8e4m3⟩
  | .local _ .vmem, ⟨14, _⟩ => ⟨S256x56, .f32⟩
  | .local _ .vmem, ⟨15, _⟩ => ⟨S256x56, .f32⟩
  | .local _ .vmem, ⟨16, _⟩ => ⟨S512x256, .bf16⟩
  | .local _ .vmem, ⟨17, _⟩ => ⟨S512x256, .bf16⟩
  | .local _ .vmem, ⟨18, _⟩ => ⟨S4x1x256, .f32⟩
  | .local _ .vmem, ⟨19, _⟩ => ⟨S4x1x256, .f32⟩
  | .local _ .vmem, ⟨20, _⟩ => ⟨S256x4, .f32⟩
  | .local _ .vmem, ⟨21, _⟩ => ⟨S256x4, .f32⟩
  | .local _ .vmem, ⟨22, _⟩ => ⟨S512x7168, .bf16⟩
  | .local _ .vmem, ⟨23, _⟩ => ⟨S256x7168, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x56 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidRefIdeal.lean ====
abbrev S8192x7168 : Shape := ⟨2, ![8192, 7168]⟩
abbrev S8192x512 : Shape := ⟨2, ![8192, 512]⟩
abbrev S512x8192 : Shape := ⟨2, ![512, 8192]⟩
abbrev S4x1x8192 : Shape := ⟨3, ![4, 1, 8192]⟩
abbrev S512x7168 : Shape := ⟨2, ![512, 7168]⟩
abbrev S4x7168 : Shape := ⟨2, ![4, 7168]⟩
abbrev S8192x56 : Shape := ⟨2, ![8192, 56]⟩
abbrev S8192x4 : Shape := ⟨2, ![8192, 4]⟩
abbrev S8192x56x128 : Shape := ⟨3, ![8192, 56, 128]⟩
abbrev S8192x56x1 : Shape := ⟨3, ![8192, 56, 1]⟩
abbrev S4x128x7168 : Shape := ⟨3, ![4, 128, 7168]⟩
abbrev S4x1x7168 : Shape := ⟨3, ![4, 1, 7168]⟩
abbrev S4x128x8192 : Shape := ⟨3, ![4, 128, 8192]⟩
abbrev S4x8192 : Shape := ⟨2, ![4, 8192]⟩

abbrev nBuf : Space → Nat
  | .hbm => 12
  | .vmem => 12
  | .smem => 0
  | _ => 0

abbrev bufTy : (tb : Table) → Fin (tcTables nBuf tb) → BufTy
  | .hbm, ⟨0, _⟩ => ⟨S8192x7168, .bf16⟩
  | .hbm, ⟨1, _⟩ => ⟨S8192x512, .bf16⟩
  | .hbm, ⟨2, _⟩ => ⟨S512x8192, .f32⟩
  | .hbm, ⟨3, _⟩ => ⟨S4x1x8192, .f32⟩
  | .hbm, ⟨4, _⟩ => ⟨S512x7168, .fp8e4m3⟩
  | .hbm, ⟨5, _⟩ => ⟨S4x7168, .f32⟩
  | .hbm, ⟨6, _⟩ => ⟨S8192x7168, .bf16⟩
  | .hbm, ⟨7, _⟩ => ⟨S8192x7168, .fp8e4m3⟩
  | .hbm, ⟨8, _⟩ => ⟨S8192x56, .f32⟩
  | .hbm, ⟨9, _⟩ => ⟨S512x8192, .bf16⟩
  | .hbm, ⟨10, _⟩ => ⟨S4x1x8192, .f32⟩
  | .hbm, ⟨11, _⟩ => ⟨S8192x4, .f32⟩
  | .local _ .vmem, ⟨0, _⟩ => ⟨S8192x7168, .bf16⟩
  | .local _ .vmem, ⟨1, _⟩ => ⟨S8192x512, .bf16⟩
  | .local _ .vmem, ⟨2, _⟩ => ⟨S512x8192, .f32⟩
  | .local _ .vmem, ⟨3, _⟩ => ⟨S4x1x8192, .f32⟩
  | .local _ .vmem, ⟨4, _⟩ => ⟨S512x7168, .fp8e4m3⟩
  | .local _ .vmem, ⟨5, _⟩ => ⟨S4x7168, .f32⟩
  | .local _ .vmem, ⟨6, _⟩ => ⟨S8192x7168, .bf16⟩
  | .local _ .vmem, ⟨7, _⟩ => ⟨S8192x7168, .fp8e4m3⟩
  | .local _ .vmem, ⟨8, _⟩ => ⟨S8192x56, .f32⟩
  | .local _ .vmem, ⟨9, _⟩ => ⟨S512x8192, .bf16⟩
  | .local _ .vmem, ⟨10, _⟩ => ⟨S4x1x8192, .f32⟩
  | .local _ .vmem, ⟨11, _⟩ => ⟨S8192x4, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Bwd.lean ====
abbrev S4x192x8192 : Shape := ⟨3, ![4, 192, 8192]⟩
abbrev S4x8192x192 : Shape := ⟨3, ![4, 8192, 192]⟩
abbrev S4x8192x128 : Shape := ⟨3, ![4, 8192, 128]⟩
abbrev S512x8192 : Shape := ⟨2, ![512, 8192]⟩
abbrev S4x1x8192 : Shape := ⟨3, ![4, 1, 8192]⟩
abbrev S4x128x8192 : Shape := ⟨3, ![4, 128, 8192]⟩
abbrev S1x192x8192 : Shape := ⟨3, ![1, 192, 8192]⟩
abbrev S1x512x192 : Shape := ⟨3, ![1, 512, 192]⟩
abbrev S1x192x512 : Shape := ⟨3, ![1, 192, 512]⟩
abbrev S1x512x128 : Shape := ⟨3, ![1, 512, 128]⟩
abbrev S128x8192 : Shape := ⟨2, ![128, 8192]⟩
abbrev S1x1x8192 : Shape := ⟨3, ![1, 1, 8192]⟩
abbrev S1x128x512 : Shape := ⟨3, ![1, 128, 512]⟩
abbrev S192x512 : Shape := ⟨2, ![192, 512]⟩
abbrev S128x512 : Shape := ⟨2, ![128, 512]⟩
abbrev S512x192 : Shape := ⟨2, ![512, 192]⟩
abbrev S512x512 : Shape := ⟨2, ![512, 512]⟩
abbrev S512x128 : Shape := ⟨2, ![512, 128]⟩
abbrev S1x1x512 : Shape := ⟨3, ![1, 1, 512]⟩
abbrev S1x512 : Shape := ⟨2, ![1, 512]⟩

abbrev nBuf : Space → Nat
  | .hbm => 10
  | .vmem => 22
  | .smem => 0
  | _ => 0

abbrev bufTy : (tb : Table) → Fin (tcTables nBuf tb) → BufTy
  | .hbm, ⟨0, _⟩ => ⟨S4x192x8192, .bf16⟩
  | .hbm, ⟨1, _⟩ => ⟨S4x8192x192, .bf16⟩
  | .hbm, ⟨2, _⟩ => ⟨S4x8192x128, .bf16⟩
  | .hbm, ⟨3, _⟩ => ⟨S512x8192, .bf16⟩
  | .hbm, ⟨4, _⟩ => ⟨S4x1x8192, .f32⟩
  | .hbm, ⟨5, _⟩ => ⟨S4x1x8192, .f32⟩
  | .hbm, ⟨6, _⟩ => ⟨S4x192x8192, .bf16⟩
  | .hbm, ⟨7, _⟩ => ⟨S4x192x8192, .f32⟩
  | .hbm, ⟨8, _⟩ => ⟨S4x192x8192, .f32⟩
  | .hbm, ⟨9, _⟩ => ⟨S4x128x8192, .f32⟩
  | .local _ .vmem, ⟨0, _⟩ => ⟨S1x192x8192, .bf16⟩
  | .local _ .vmem, ⟨1, _⟩ => ⟨S1x192x8192, .bf16⟩
  | .local _ .vmem, ⟨2, _⟩ => ⟨S1x512x192, .bf16⟩
  | .local _ .vmem, ⟨3, _⟩ => ⟨S1x512x192, .bf16⟩
  | .local _ .vmem, ⟨4, _⟩ => ⟨S1x192x512, .bf16⟩
  | .local _ .vmem, ⟨5, _⟩ => ⟨S1x192x512, .bf16⟩
  | .local _ .vmem, ⟨6, _⟩ => ⟨S1x512x128, .bf16⟩
  | .local _ .vmem, ⟨7, _⟩ => ⟨S1x512x128, .bf16⟩
  | .local _ .vmem, ⟨8, _⟩ => ⟨S128x8192, .bf16⟩
  | .local _ .vmem, ⟨9, _⟩ => ⟨S128x8192, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S1x192x8192, .f32⟩
  | .local _ .vmem, ⟨15, _⟩ => ⟨S1x192x8192, .f32⟩
  | .local _ .vmem, ⟨16, _⟩ => ⟨S1x192x512, .f32⟩
  | .local _ .vmem, ⟨17, _⟩ => ⟨S1x192x512, .f32⟩
  | .local _ .vmem, ⟨18, _⟩ => ⟨S1x128x512, .f32⟩
  | .local _ .vmem, ⟨19, _⟩ => ⟨S1x128x512, .f32⟩
  | .local _ .vmem, ⟨20, _⟩ => ⟨S192x512, .f32⟩
  | .local _ .vmem, ⟨21, _⟩ => ⟨S128x512, .f32⟩
  | _, _ => ⟨S4x192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let c0_5 : Index := 0#32
  let c0_6 : Index := 0#32
  let arg1 : BitVec 32 := BitVec.ofNat 32 (i 1).val
  let c512_i32 : BitVec 32 := 512#32
  let v11 : BitVec 32 := Scalar.muli arg1 c512_i32
  let v12 : Index := Scalar.indexCast v11
  ![0, 0, v12.toNat]
def k0_off2 (i : grid0.Coords) : Fin 2 → Nat :=
  let c0_7 : Index := 0#32
  let arg1 : BitVec 32 := BitVec.ofNat 32 (i 1).val
  let c512_i32 : BitVec 32 := 512#32
  let v11 : BitVec 32 := Scalar.muli arg1 c512_i32
  let v15 : Index := Scalar.indexCast v11
  ![0, v15.toNat]
def k0_off3 (i : grid0.Coords) : Fin 3 → Nat :=
  let c0_17 : Index := 0#32
  let c0_18 : Index := 0#32
  let arg1 : BitVec 32 := BitVec.ofNat 32 (i 1).val
  let c512_i32 : BitVec 32 := 512#32
  let v11 : BitVec 32 := Scalar.muli arg1 c512_i32
  let v25 : Index := Scalar.indexCast v11
  ![0, 0, v25.toNat]
@[reducible] def k0_t1_loop (i : grid0.Coords) : Scf.Loop 32 :=
  let arg1 : BitVec 32 := BitVec.ofNat 32 (i 1).val
  let c1_i32 : BitVec 32 := 1#32
  let v69 : BitVec 32 := Scalar.addi arg1 c1_i32
  let c16_i32 : BitVec 32 := 16#32
  let v70 : BitVec 32 := Scalar.subi c16_i32 v69
  let c1_i32_41 : BitVec 32 := 1#32
  let v72 : BitVec 32 := Scalar.divsi v70 c1_i32_41
  let v73 : BitVec 32 := Scalar.muli v72 c1_i32_41
  let v74 : BitVec 32 := Scalar.addi v69 v73
  let c1_i32_42 : BitVec 32 := 1#32
  ⟨v69, v74, c1_i32_42⟩
def k0_off4 (i : grid0.Coords) (k0_t1 : Fin (k0_t1_loop i).trips) : Fin 3 → Nat :=
  let c0_55 : Index := 0#32
  let c0_56 : Index := 0#32
  let arg1 : BitVec 32 := BitVec.ofNat 32 (i 1).val
  let c1_i32 : BitVec 32 := 1#32
  let v69 : BitVec 32 := Scalar.addi arg1 c1_i32
  let c1_i32_42 : BitVec 32 := 1#32
  let arg14 : BitVec 32 := Scf.iv v69 c1_i32_42 k0_t1
  let c512_i32_54 : BitVec 32 := 512#32
  let v83 : BitVec 32 := Scalar.muli arg14 c512_i32_54
  let v84 : Index := Scalar.indexCast v83
  ![0, 0, v84.toNat]
def k0_off5 (i : grid0.Coords) (k0_t1 : Fin (k0_t1_loop i).trips) : Fin 2 → Nat :=
  let c0_57 : Index := 0#32
  let arg1 : BitVec 32 := BitVec.ofNat 32 (i 1).val
  let c1_i32 : BitVec 32 := 1#32
  let v69 : BitVec 32 := Scalar.addi arg1 c1_i32
  let c1_i32_42 : BitVec 32 := 1#32
  let arg14 : BitVec 32 := Scf.iv v69 c1_i32_42 k0_t1
  let c512_i32_54 : BitVec 32 := 512#32
  let v83 : BitVec 32 := Scalar.muli arg14 c512_i32_54
  let v87 : Index := Scalar.indexCast v83
  ![0, v87.toNat]
def k0_off6 (i : grid0.Coords) (k0_t1 : Fin (k0_t1_loop i).trips) : Fin 3 → Nat :=
  let c0_67 : Index := 0#32
  let c0_68 : Index := 0#32
  let arg1 : BitVec 32 := BitVec.ofNat 32 (i 1).val
  let c1_i32 : BitVec 32 := 1#32
  let v69 : BitVec 32 := Scalar.addi arg1 c1_i32
  let c1_i32_42 : BitVec 32 := 1#32
  let arg14 : BitVec 32 := Scf.iv v69 c1_i32_42 k0_t1
  let c512_i32_54 : BitVec 32 := 512#32
  let v83 : BitVec 32 := Scalar.muli arg14 c512_i32_54
  let v97 : Index := Scalar.indexCast v83
  ![0, 0, v97.toNat]
@[reducible] def k0_t2_loop (i : grid0.Coords) : Scf.Loop 32 :=
  let arg1 : BitVec 32 := BitVec.ofNat 32 (i 1).val
  let c1_i32 : BitVec 32 := 1#32
  let v69 : BitVec 32 := Scalar.addi arg1 c1_i32
  let c16_i32 : BitVec 32 := 16#32
  let v70 : BitVec 32 := Scalar.subi c16_i32 v69
  let c1_i32_41 : BitVec 32 := 1#32
  let v72 : BitVec 32 := Scalar.divsi v70 c1_i32_41
  let v73 : BitVec 32 := Scalar.muli v72 c1_i32_41
  let v74 : BitVec 32 := Scalar.addi v69 v73
  let v71 : BitVec 32 := Scalar.addi v69 v70
  let c1_i32_43 : BitVec 32 := 1#32
  ⟨v74, v71, c1_i32_43⟩
def k0_off7 (i : grid0.Coords) (k0_t2 : Fin (k0_t2_loop i).trips) : Fin 3 → Nat :=
  let c0_55 : Index := 0#32
  let c0_56 : Index := 0#32
  let arg1 : BitVec 32 := BitVec.ofNat 32 (i 1).val
  let c1_i32 : BitVec 32 := 1#32
  let v69 : BitVec 32 := Scalar.addi arg1 c1_i32
  let c16_i32 : BitVec 32 := 16#32
  let v70 : BitVec 32 := Scalar.subi c16_i32 v69
  let c1_i32_41 : BitVec 32 := 1#32
  let v72 : BitVec 32 := Scalar.divsi v70 c1_i32_41
  let v73 : BitVec 32 := Scalar.muli v72 c1_i32_41
  let v74 : BitVec 32 := Scalar.addi v69 v73
  let c1_i32_43 : BitVec 32 := 1#32
  let arg14 : BitVec 32 := Scf.iv v74 c1_i32_43 k0_t2
  let c512_i32_54 : BitVec 32 := 512#32
  let v83 : BitVec 32 := Scalar.muli arg14 c512_i32_54
  let v84 : Index := Scalar.indexCast v83
  ![0, 0, v84.toNat]
def k0_off8 (i : grid0.Coords) (k0_t2 : Fin (k0_t2_loop i).trips) : Fin 2 → Nat :=
  let c0_57 : Index := 0#32
  let arg1 : BitVec 32 := BitVec.ofNat 32 (i 1).val
  let c1_i32 : BitVec 32 := 1#32
  let v69 : BitVec 32 := Scalar.addi arg1 c1_i32
  let c16_i32 : BitVec 32 := 16#32
  let v70 : BitVec 32 := Scalar.subi c16_i32 v69
  let c1_i32_41 : BitVec 32 := 1#32
  let v72 : BitVec 32 := Scalar.divsi v70 c1_i32_41
  let v73 : BitVec 32 := Scalar.muli v72 c1_i32_41
  let v74 : BitVec 32 := Scalar.addi v69 v73
  let c1_i32_43 : BitVec 32 := 1#32
  let arg14 : BitVec 32 := Scf.iv v74 c1_i32_43 k0_t2
  let c512_i32_54 : BitVec 32 := 512#32
  let v83 : BitVec 32 := Scalar.muli arg14 c512_i32_54
  let v87 : Index := Scalar.indexCast v83
  ![0, v87.toNat]
def k0_off9 (i : grid0.Coords) (k0_t2 : Fin (k0_t2_loop i).trips) : Fin 3 → Nat :=
  let c0_67 : Index := 0#32
  let c0_68 : Index := 0#32
  let arg1 : BitVec 32 := BitVec.ofNat 32 (i 1).val
  let c1_i32 : BitVec 32 := 1#32
  let v69 : BitVec 32 := Scalar.addi arg1 c1_i32
  let c16_i32 : BitVec 32 := 16#32
  let v70 : BitVec 32 := Scalar.subi c16_i32 v69
  let c1_i32_41 : BitVec 32 := 1#32
  let v72 : BitVec 32 := Scalar.divsi v70 c1_i32_41
  let v73 : BitVec 32 := Scalar.muli v72 c1_i32_41
  let v74 : BitVec 32 := Scalar.addi v69 v73
  let c1_i32_43 : BitVec 32 := 1#32
  let arg14 : BitVec 32 := Scf.iv v74 c1_i32_43 k0_t2
  let c512_i32_54 : BitVec 32 := 512#32
  let v83 : BitVec 32 := Scalar.muli arg14 c512_i32_54
  let v97 : Index := Scalar.indexCast v83
  ![0, 0, v97.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x192x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x192x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== BwdIdeal.lean ====
variable {F : FTy → Type} [FloatOps F] [Named F]
def κ : String → Option EReal := fun
  | "score_scale" => some ((58612965992495 / 562949953421312 : ℝ) : EReal)
  | _ => none
-- ==== BwdRefIdeal.lean ====
abbrev S4x192x8192 : Shape := ⟨3, ![4, 192, 8192]⟩
abbrev S4x8192x192 : Shape := ⟨3, ![4, 8192, 192]⟩
abbrev S4x8192x128 : Shape := ⟨3, ![4, 8192, 128]⟩
abbrev S512x8192 : Shape := ⟨2, ![512, 8192]⟩
abbrev S4x1x8192 : Shape := ⟨3, ![4, 1, 8192]⟩
abbrev S4x128x8192 : Shape := ⟨3, ![4, 128, 8192]⟩
abbrev S4x8192x8192 : Shape := ⟨3, ![4, 8192, 8192]⟩
abbrev S_ : Shape := ⟨0, ![]⟩
abbrev S8192x8192 : Shape := ⟨2, ![8192, 8192]⟩
abbrev S4x8192x1 : Shape := ⟨3, ![4, 8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x192x8192, .bf16⟩
  | .hbm, ⟨1, _⟩ => ⟨S4x8192x192, .bf16⟩
  | .hbm, ⟨2, _⟩ => ⟨S4x8192x128, .bf16⟩
  | .hbm, ⟨3, _⟩ => ⟨S512x8192, .bf16⟩
  | .hbm, ⟨4, _⟩ => ⟨S4x1x8192, .f32⟩
  | .hbm, ⟨5, _⟩ => ⟨S4x1x8192, .f32⟩
  | .hbm, ⟨6, _⟩ => ⟨S4x8192x192, .bf16⟩
  | .hbm, ⟨7, _⟩ => ⟨S4x128x8192, .bf16⟩
  | .hbm, ⟨8, _⟩ => ⟨S4x8192x128, .bf16⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S_, .f32⟩
  | .hbm, ⟨21, _⟩ => ⟨S4x8192x8192, .i1⟩
  | .hbm, ⟨22, _⟩ => ⟨S4x8192x8192, .f32⟩
  | .hbm, ⟨23, _⟩ => ⟨S4x8192x8192, .f32⟩
  | .hbm, ⟨24, _⟩ => ⟨S4x8192x1, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192x8192, .f32⟩
  | .hbm, ⟨29, _⟩ => ⟨S4x8192x8192, .f32⟩
  | .hbm, ⟨30, _⟩ => ⟨S4x8192x8192, .bf16⟩
  | .hbm, ⟨31, _⟩ => ⟨S4x128x8192, .f32⟩
  | .hbm, ⟨32, _⟩ => ⟨S4x8192x8192, .f32⟩
  | .hbm, ⟨33, _⟩ => ⟨S4x8192x1, .f32⟩
  | .hbm, ⟨34, _⟩ => ⟨S4x8192x8192, .f32⟩
  | .hbm, ⟨35, _⟩ => ⟨S4x8192x8192, .f32⟩
  | .hbm, ⟨36, _⟩ => ⟨S4x8192x8192, .f32⟩
  | .hbm, ⟨37, _⟩ => ⟨S_, .f32⟩
  | .hbm, ⟨38, _⟩ => ⟨S4x8192x8192, .f32⟩
  | .hbm, ⟨39, _⟩ => ⟨S4x8192x8192, .f32⟩
  | .hbm, ⟨40, _⟩ => ⟨S4x8192x8192, .bf16⟩
  | .hbm, ⟨41, _⟩ => ⟨S4x192x8192, .f32⟩
  | .hbm, ⟨42, _⟩ => ⟨S4x192x8192, .f32⟩
  | _, _ => ⟨S4x192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Dx.lean ====
abbrev S8192x2112 : Shape := ⟨2, ![8192, 2112]⟩
abbrev S2112x7168 : Shape := ⟨2, ![2112, 7168]⟩
abbrev S8192x7168 : Shape := ⟨2, ![8192, 7168]⟩
abbrev S8192x1 : Shape := ⟨2, ![8192, 1]⟩
abbrev S1x7168 : Shape := ⟨2, ![1, 7168]⟩
abbrev S8192x128 : Shape := ⟨2, ![8192, 128]⟩
abbrev S256x2112 : Shape := ⟨2, ![256, 2112]⟩
abbrev S256x7168 : Shape := ⟨2, ![256, 7168]⟩
abbrev S256x128 : Shape := ⟨2, ![256, 128]⟩
abbrev S8x7168 : Shape := ⟨2, ![8, 7168]⟩
abbrev S8x128 : Shape := ⟨2, ![8, 128]⟩
abbrev S32x8x128 : Shape := ⟨3, ![32, 8, 128]⟩
abbrev S1x128 : Shape := ⟨2, ![1, 128]⟩
abbrev S256 : Shape := ⟨1, ![256]⟩
abbrev S256x1 : Shape := ⟨2, ![256, 1]⟩
abbrev S7168 : Shape := ⟨1, ![7168]⟩

abbrev nBuf : Space → Nat
  | .hbm => 8
  | .vmem => 13
  | .smem => 0
  | _ => 0

abbrev bufTy : (tb : Table) → Fin (tcTables nBuf tb) → BufTy
  | .hbm, ⟨0, _⟩ => ⟨S8192x2112, .bf16⟩
  | .hbm, ⟨1, _⟩ => ⟨S2112x7168, .bf16⟩
  | .hbm, ⟨2, _⟩ => ⟨S8192x7168, .bf16⟩
  | .hbm, ⟨3, _⟩ => ⟨S8192x1, .f32⟩
  | .hbm, ⟨4, _⟩ => ⟨S1x7168, .f32⟩
  | .hbm, ⟨5, _⟩ => ⟨S8192x128, .f32⟩
  | .hbm, ⟨6, _⟩ => ⟨S8192x7168, .bf16⟩
  | .hbm, ⟨7, _⟩ => ⟨S1x7168, .f32⟩
  | .local _ .vmem, ⟨0, _⟩ => ⟨S256x2112, .bf16⟩
  | .local _ .vmem, ⟨1, _⟩ => ⟨S256x2112, .bf16⟩
  | .local _ .vmem, ⟨2, _⟩ => ⟨S2112x7168, .bf16⟩
  | .local _ .vmem, ⟨3, _⟩ => ⟨S256x7168, .bf16⟩
  | .local _ .vmem, ⟨4, _⟩ => ⟨S256x7168, .bf16⟩
  | .local _ .vmem, ⟨5, _⟩ => ⟨S256x128, .f32⟩
  | .local _ .vmem, ⟨6, _⟩ => ⟨S256x128, .f32⟩
  | .local _ .vmem, ⟨7, _⟩ => ⟨S1x7168, .f32⟩
  | .local _ .vmem, ⟨8, _⟩ => ⟨S256x7168, .bf16⟩
  | .local _ .vmem, ⟨9, _⟩ => ⟨S256x7168, .bf16⟩
  | .local _ .vmem, ⟨10, _⟩ => ⟨S1x7168, .f32⟩
  | .local _ .vmem, ⟨11, _⟩ => ⟨S256x7168, .f32⟩
  | .local _ .vmem, ⟨12, _⟩ => ⟨S8x7168, .f32⟩
  | _, _ => ⟨S8192x2112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1532 : BitVec 1 := Scalar.cmpi .eq arg0 c31_i32
  let v1533 : BitVec 32 := Scalar.extui v1532
  let c0_i32_1020 : BitVec 32 := 0#32
  let v1534 : BitVec 1 := Scalar.cmpi .ne v1533 c0_i32_1020
  v1534

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2112 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2112x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxIdeal.lean ====
variable {F : FTy → Type} [FloatOps F] [Named F]
def κ : String → Option EReal := fun
  | "inv_d" => some ((1 / 7168 : ℝ) : EReal)
  | _ => none
-- ==== DxRefIdeal.lean ====
abbrev S8192x2112 : Shape := ⟨2, ![8192, 2112]⟩
abbrev S2112x7168 : Shape := ⟨2, ![2112, 7168]⟩
abbrev S8192x7168 : Shape := ⟨2, ![8192, 7168]⟩
abbrev S8192x1 : Shape := ⟨2, ![8192, 1]⟩
abbrev S1x7168 : Shape := ⟨2, ![1, 7168]⟩
abbrev S_ : Shape := ⟨0, ![]⟩
abbrev S7168 : Shape := ⟨1, ![7168]⟩
abbrev S8192 : Shape := ⟨1, ![8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2112, .bf16⟩
  | .hbm, ⟨1, _⟩ => ⟨S2112x7168, .bf16⟩
  | .hbm, ⟨2, _⟩ => ⟨S8192x7168, .bf16⟩
  | .hbm, ⟨3, _⟩ => ⟨S8192x1, .f32⟩
  | .hbm, ⟨4, _⟩ => ⟨S1x7168, .f32⟩
  | .hbm, ⟨5, _⟩ => ⟨S8192x7168, .f32⟩
  | .hbm, ⟨6, _⟩ => ⟨S8192x7168, .f32⟩
  | .hbm, ⟨7, _⟩ => ⟨S8192x7168, .f32⟩
  | .hbm, ⟨8, _⟩ => ⟨S8192x7168, .f32⟩
  | .hbm, ⟨9, _⟩ => ⟨S8192x7168, .f32⟩
  | .hbm, ⟨10, _⟩ => ⟨S_, .f32⟩
  | .hbm, ⟨11, _⟩ => ⟨S7168, .f32⟩
  | .hbm, ⟨12, _⟩ => ⟨S1x7168, .f32⟩
  | .hbm, ⟨13, _⟩ => ⟨S8192x7168, .f32⟩
  | .hbm, ⟨14, _⟩ => ⟨S8192x7168, .f32⟩
  | .hbm, ⟨15, _⟩ => ⟨S8192x7168, .f32⟩
  | .hbm, ⟨16, _⟩ => ⟨S8192x7168, .f32⟩
  | .hbm, ⟨17, _⟩ => ⟨S8192x1, .f32⟩
  | .hbm, ⟨18, _⟩ => ⟨S8192x1, .f32⟩
  | .hbm, ⟨19, _⟩ => ⟨S8192x7168, .f32⟩
  | .hbm, ⟨20, _⟩ => ⟨S8192x7168, .f32⟩
  | .hbm, ⟨21, _⟩ => ⟨S8192x7168, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x7168, .f32⟩
  | .hbm, ⟨29, _⟩ => ⟨S8192x7168, .f32⟩
  | .hbm, ⟨30, _⟩ => ⟨S8192x7168, .f32⟩
  | .hbm, ⟨31, _⟩ => ⟨S8192x7168, .bf16⟩
  | _, _ => ⟨S8192x2112, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.DxBlock.lean ====
/-
  What one grid point of the kernel `k7_dx` stores, in a vocabulary of whole 128-lane strips: strip `k` of the product
  `da · waᵀ`, of `x`, of `g`; the row sums accumulated strip by strip; the 56 strips of `dx` stored and the 56 strips of the
  running column sums stored.  The printed run's pieces are these lists, by computation.
-/
module

public import proofs.«01_k».proof.Proof.Gen.DxIdeal.Frame

@[expose] public section

set_option maxRecDepth 65536

noncomputable section

namespace Cert.DxIdeal.Block

open Idealize.ShloMosaic Idealize.ShloMosaic.TcCoe Idealize.ShloMosaic.Tactic Cert.DxIdeal.Gen

variable {F : FTy → Type} [FloatOps F] [Named F]

/-- Strip `k` lies inside each of the four arrays that are read or written strip by strip. -/
theorem inbW (k : ℕ) (hk : k < 56) : ∀ a, (![0, 128 * k] : Fin 2 → ℕ) a + S256x128.size a ≤ S256x7168.size a := by
  intro a; match a with
  | ⟨0, _⟩ => show 0 + 256 ≤ 256; omega
  | ⟨1, _⟩ => show 128 * k + 128 ≤ 7168; omega
theorem inbG (k : ℕ) (hk : k < 56) : ∀ a, (![0, 128 * k] : Fin 2 → ℕ) a + S1x128.size a ≤ S1x7168.size a := by
  intro a; match a with
  | ⟨0, _⟩ => show 0 + 1 ≤ 1; omega
  | ⟨1, _⟩ => show 128 * k + 128 ≤ 7168; omega
theorem inbS (k : ℕ) (hk : k < 56) : ∀ a, (![0, 128 * k] : Fin 2 → ℕ) a + S8x128.size a ≤ S8x7168.size a := by
  intro a; match a with
  | ⟨0, _⟩ => show 0 + 8 ≤ 8; omega
  | ⟨1, _⟩ => show 128 * k + 128 ≤ 7168; omega

/-- Strip `k` as a rectangle of a 256-row array, of a one-row array, of an 8-row array. -/
abbrev rW (k : ℕ) (hk : k < 56) : Rect S256x7168 := Rect.unit (s := S256x7168) ![0, 128 * k] S256x128.size (inbW k hk)
abbrev rG (k : ℕ) (hk : k < 56) : Rect S1x7168 := Rect.unit (s := S1x7168) ![0, 128 * k] S1x128.size (inbG k hk)
abbrev rS (k : ℕ) (hk : k < 56) : Rect S8x7168 := Rect.unit (s := S8x7168) ![0, 128 * k] S8x128.size (inbS k hk)

section

variable (arg1 : Memref sig .tc .vmem S256x2112 .bf16) (harg1 : arg1.IsWhole) (arg2 : Memref sig .tc .vmem S2112x7168 .bf16) (harg2 : arg2.IsWhole) (arg3 : Memref sig .tc .vmem S256x7168 .bf16) (harg3 : arg3.IsWhole) (arg4 : Memref sig .tc .vmem S256x128 .f32) (harg4 : arg4.IsWhole) (arg5 : Memref sig .tc .vmem S1x7168 .f32) (harg5 : arg5.IsWhole) (arg8 : Memref sig .tc .vmem S256x7168 .f32) (arg9 : Memref sig .tc .vmem S8x7168 .f32)
    (x0 : Vec F S256x2112 .bf16) (x1 : Vec F S2112x7168 .bf16) (x2 : Vec F S256x7168 .bf16) (x3 : Vec F S256x128 .f32) (x4 : Vec F S1x7168 .f32)

/-- The product of the point's rows, as it is stored whole. -/
def PROD : Vec F S256x7168 .f32 :=
  k0_pay4 (View.readAt (Elt F) arg1.view (Rect.unit (s := S256x2112) ![0, 0] S256x2112.size inb_S256x2112_S256x2112_0_0).toLoadRect (harg1.unread x0))
    (View.readAt (Elt F) arg2.view (Rect.unit (s := S2112x7168) ![0, 0] S2112x7168.size inb_S2112x7168_S2112x7168_0_0).toLoadRect (harg2.unread x1))

/-- Strip `k` of the stored product. -/
def DH (k : ℕ) (hk : k < 56) : Vec F S256x128 .f32 :=
  arg8.view.readCov (Val := Elt F) [⟨Rect.unit (s := S256x7168) ![0, 0] S256x7168.size inb_S256x7168_S256x7168_0_0, PROD arg1 harg1 arg2 harg2 x0 x1⟩] (rW k hk).toLoadRect

/-- Strip `k` of `x`, widened. -/
def XV (k : ℕ) (hk : k < 56) : FVec F S256x128 .f32 :=
  extf .f32 (View.readAt (Elt F) arg3.view (rW k hk).toLoadRect (harg3.unread x2)) bitsLt_bf16_f32

/-- Strip `k` of `g`, over the rows. -/
def GB (k : ℕ) (hk : k < 56) : FVec F S256x128 .f32 :=
  broadcastTo S256x128 (View.readAt (Elt F) arg5.view (rG k hk).toLoadRect (harg5.unread x4)) broadcasts_S1x128_S256x128

/-- The rows' scale, over the lanes. -/
def R0 : FVec F S256x128 .f32 :=
  k0_pay5 (View.readAt (Elt F) arg4.view (Rect.unit (s := S256x128) ![0, 0] S256x128.size inb_S256x128_S256x128_0_0).toLoadRect (harg4.unread x3))

/-- Strip `k` of the product times `x`. -/
def DV (k : ℕ) (hk : k < 56) : FVec F S256x128 .f32 :=
  mulf (DH arg1 harg1 arg2 harg2 arg8 x0 x1 k hk) (XV arg3 harg3 x2 k hk)

/-- The row sums, lane by lane, over the first `n` strips. -/
def ACC : (n : ℕ) → n ≤ 56 → FVec F S256x128 .f32
  | 0, _ => broadcast S256x128 (Scalar.ofBits .f32 0x00000000#32)
  | n + 1, h => addf (ACC n (Nat.le_of_succ_le h))
      (mulf (DV arg1 harg1 arg2 harg2 arg3 harg3 arg8 x0 x1 x2 n h) (GB arg5 harg5 x4 n h))

/-- The rows' factor of `x`: the cube of the scale times the mean. -/
def FF : FVec F S256x128 .f32 :=
  mulf (mulf (mulf (R0 arg4 harg4 x3) (R0 arg4 harg4 x3)) (R0 arg4 harg4 x3))
    (broadcastTo S256x128
      (mulf (shapeCast S256x1 (multiReduction .add [1] S256 (ACC arg1 harg1 arg2 harg2 arg3 harg3 arg5 harg5 arg8 x0 x1 x2 x4 56 (le_refl _)) 0x00000000#32 reduces_S256x128_S256 (.inl rfl) rfl) shapeCasts_S256_S256x1)
        (broadcast S256x1 (Named.named κ "inv_d" 0x39124925#32))) broadcasts_S256x1_S256x128)

/-- Strip `k` of `dx`. -/
def DX (k : ℕ) (hk : k < 56) : FVec F S256x128 .bf16 :=
  truncf .bf16 (subf
    (mulf (R0 arg4 harg4 x3) (mulf (DH arg1 harg1 arg2 harg2 arg8 x0 x1 k hk) (GB arg5 harg5 x4 k hk)))
    (mulf (XV arg3 harg3 x2 k hk) (FF arg1 harg1 arg2 harg2 arg3 harg3 arg4 harg4 arg5 harg5 arg8 x0 x1 x2 x3 x4))) bitsLt_bf16_f32

/-- The stores of the first `n` strips of `dx`, the last first. -/
def PDX : (n : ℕ) → n ≤ 56 → List (View.Piece (Elt F) S256x7168 .bf16)
  | 0, _ => []
  | n + 1, h => ⟨rW n h, DX arg1 harg1 arg2 harg2 arg3 harg3 arg4 harg4 arg5 harg5 arg8 x0 x1 x2 x3 x4 n h⟩ :: PDX n (Nat.le_of_succ_le h)

/-- Strip `k` of the running column sums over what the strip held before. -/
def DS (k : ℕ) (hk : k < 56) (w : Vec F S8x128 .f32) : FVec F S8x128 .f32 :=
  shapeCast S8x128 (addf w (multiReduction .add [0] S8x128 (shapeCast S32x8x128 (mulf (DV arg1 harg1 arg2 harg2 arg3 harg3 arg8 x0 x1 x2 k hk) (R0 arg4 harg4 x3)) shapeCasts_S256x128_S32x8x128) 0x00000000#32 reduces_S32x8x128_S8x128 (.inl rfl) rfl)) shapeCasts_S8x128_S8x128

/-- The stores of the first `n` strips of the column sums over the contents `xs`, the last first. -/
def PDS (harg9 : arg9.IsWhole) (xs : Vec F S8x7168 .f32) : (n : ℕ) → n ≤ 56 → List (View.Piece (Elt F) S8x7168 .f32)
  | 0, _ => []
  | n + 1, h => ⟨rS n h, DS arg1 harg1 arg2 harg2 arg3 harg3 arg4 harg4 arg8 x0 x1 x2 x3 n h (View.readAt (Elt F) arg9.view (rS n h).toLoadRect (harg9.unread xs))⟩ :: PDS harg9 xs n (Nat.le_of_succ_le h)

/-- The same at the first point: the zeros stored whole, then the strips over what was stored. -/
def PDZ : (n : ℕ) → n ≤ 56 → List (View.Piece (Elt F) S8x7168 .f32)
  | 0, _ => [⟨Rect.unit (s := S8x7168) ![0, 0] S8x7168.size inb_S8x7168_S8x7168_0_0, k0_pay3⟩]
  | n + 1, h => ⟨rS n h, DS arg1 harg1 arg2 harg2 arg3 harg3 arg4 harg4 arg8 x0 x1 x2 x3 n h (arg9.view.readCov (Val := Elt F) (PDZ n (Nat.le_of_succ_le h)) (rS n h).toLoadRect)⟩ :: PDZ n (Nat.le_of_succ_le h)

end

end Cert.DxIdeal.Block

end
-- ==== Proof.DxPieces.lean ====
/-
  The lists of pieces that the printed run of `k7_dx` finds are the lists of strips of `Block`: every grid point stores the
  56 strips of `dx`, and the 56 strips of the column sums over what the point before left (over zeros at the first).
-/
module

public import proofs.«01_k».proof.Proof.DxBlock

@[expose] public section

set_option maxRecDepth 65536

noncomputable section

namespace Cert.DxIdeal.Block

open Idealize.ShloMosaic Idealize.ShloMosaic.TcCoe Idealize.ShloMosaic.Tactic Cert.DxIdeal.Gen

variable {F : FTy → Type} [FloatOps F] [Named F]

variable (c : Dev nD) (i : grid0.Coords) (arg1 : Memref sig .tc .vmem S256x2112 .bf16) (harg1 : arg1.IsWhole) (arg2 : Memref sig .tc .vmem S2112x7168 .bf16) (harg2 : arg2.IsWhole) (arg3 : Memref sig .tc .vmem S256x7168 .bf16) (harg3 : arg3.IsWhole) (arg4 : Memref sig .tc .vmem S256x128 .f32) (harg4 : arg4.IsWhole) (arg5 : Memref sig .tc .vmem S1x7168 .f32) (harg5 : arg5.IsWhole) (arg6 : Memref sig .tc .vmem S256x7168 .bf16) (harg6 : arg6.IsWhole) (arg7 : Memref sig .tc .vmem S1x7168 .f32) (harg7 : arg7.IsWhole) (arg8 : Memref sig .tc .vmem S256x7168 .f32) (harg8 : arg8.IsWhole) (arg9 : Memref sig .tc .vmem S8x7168 .f32) (harg9 : arg9.IsWhole)
    (x0 : Vec F S256x2112 .bf16) (x1 : Vec F S2112x7168 .bf16) (x2 : Vec F S256x7168 .bf16) (x3 : Vec F S256x128 .f32) (x4 : Vec F S1x7168 .f32) (xs1 : Vec F S8x7168 .f32)

theorem dx_A (hc0 : cond0_0 i) (hc1 : ¬cond0_1 i) : (kernelRun0_A c i arg1 harg1 arg2 harg2 arg3 harg3 arg4 harg4 arg5 harg5 arg6 harg6 arg7 harg7 arg8 harg8 arg9 harg9 hc0 hc1 x0 x1 x2 x3 x4).1 = PDX arg1 harg1 arg2 harg2 arg3 harg3 arg4 harg4 arg5 harg5 arg8 x0 x1 x2 x3 x4 56 (le_refl _) := by
  unfold kernelRun0_A; dsimp only; rfl

theorem ds_A (hc0 : cond0_0 i) (hc1 : ¬cond0_1 i) : (kernelRun0_A c i arg1 harg1 arg2 harg2 arg3 harg3 arg4 harg4 arg5 harg5 arg6 harg6 arg7 harg7 arg8 harg8 arg9 harg9 hc0 hc1 x0 x1 x2 x3 x4).2.2.1 = PDZ arg1 harg1 arg2 harg2 arg3 harg3 arg4 harg4 arg8 arg9 x0 x1 x2 x3 56 (le_refl _) := by
  unfold kernelRun0_A; dsimp only; rfl

theorem dx_B (hc0 : ¬cond0_0 i) (hc1 : ¬cond0_1 i) : (kernelRun0_B c i arg1 harg1 arg2 harg2 arg3 harg3 arg4 harg4 arg5 harg5 arg6 harg6 arg7 harg7 arg8 harg8 arg9 harg9 hc0 hc1 x0 x1 x2 x3 x4 xs1).1 = PDX arg1 harg1 arg2 harg2 arg3 harg3 arg4 harg4 arg5 harg5 arg8 x0 x1 x2 x3 x4 56 (le_refl _) := by
  unfold kernelRun0_B; dsimp only; rfl

theorem ds_B (hc0 : ¬cond0_0 i) (hc1 : ¬cond0_1 i) : (kernelRun0_B c i arg1 harg1 arg2 harg2 arg3 harg3 arg4 harg4 arg5 harg5 arg6 harg6 arg7 harg7 arg8 harg8 arg9 harg9 hc0 hc1 x0 x1 x2 x3 x4 xs1).2.2.1 = PDS arg1 harg1 arg2 harg2 arg3 harg3 arg4 harg4 arg8 arg9 x0 x1 x2 x3 harg9 xs1 56 (le_refl _) := by
  unfold kernelRun0_B; dsimp only; rfl

theorem dx_C (hc0 : ¬cond0_0 i) (hc1 : cond0_1 i) : (kernelRun0_C c i arg1 harg1 arg2 harg2 arg3 harg3 arg4 harg4 arg5 harg5 arg6 harg6 arg7 harg7 arg8 harg8 arg9 harg9 hc0 hc1 x0 x1 x2 x3 x4 xs1).1 = PDX arg1 harg1 arg2 harg2 arg3 harg3 arg4 harg4 arg5 harg5 arg8 x0 x1 x2 x3 x4 56 (le_refl _) := by
  unfold kernelRun0_C; dsimp only; rfl

theorem ds_C (hc0 : ¬cond0_0 i) (hc1 : cond0_1 i) : (kernelRun0_C c i arg1 harg1 arg2 harg2 arg3 harg3 arg4 harg4 arg5 harg5 arg6 harg6 arg7 harg7 arg8 harg8 arg9 harg9 hc0 hc1 x0 x1 x2 x3 x4 xs1).2.2.1 = PDS arg1 harg1 arg2 harg2 arg3 harg3 arg4 harg4 arg8 arg9 x0 x1 x2 x3 harg9 xs1 56 (le_refl _) := by
  unfold kernelRun0_C; dsimp only; rfl

theorem dg_C (hc0 : ¬cond0_0 i) (hc1 : cond0_1 i) : (kernelRun0_C c i arg1 harg1 arg2 harg2 arg3 harg3 arg4 harg4 arg5 harg5 arg6 harg6 arg7 harg7 arg8 harg8 arg9 harg9 hc0 hc1 x0 x1 x2 x3 x4 xs1).2.1 =
    [⟨Rect.unit (s := S1x7168) ![0, 0] S1x7168.size inb_S1x7168_S1x7168_0_0, k0_pay2 (arg9.view.readCov (Val := Elt F) (PDS arg1 harg1 arg2 harg2 arg3 harg3 arg4 harg4 arg8 arg9 x0 x1 x2 x3 harg9 xs1 56 (le_refl _)) (Rect.unit (s := S8x7168) ![0, 0] S8x7168.size inb_S8x7168_S8x7168_0_0).toLoadRect)⟩] := by
  unfold kernelRun0_C; dsimp only; rfl

end Cert.DxIdeal.Block

end
-- ==== Proof.DxRead.lean ====
/-
  The strips of `Block` at an index, at the ideal instance: each load reads its block, each strip reads its columns of the
  whole, and the 56 strips' stores leave the function of the whole row.
-/
module

public import proofs.«01_k».proof.Proof.DxPieces
public import Idealize.ShloMosaic.Lib.Pointwise
public import Idealize.ShloMosaic.Lib.Pipeline.ReadBack

@[expose] public section

set_option maxRecDepth 65536

noncomputable section

namespace Cert.DxIdeal.Block

open Idealize.ShloMosaic Idealize.ShloMosaic.TcCoe Idealize.ShloMosaic.Tactic Cert.DxIdeal.Gen

/-- Column `l` of strip `k`. -/
abbrev col (k : ℕ) (hk : k < 56) (l : Fin 128) : Fin 7168 := ⟨128 * k + l.val, by omega⟩

theorem embW (k : ℕ) (hk : k < 56) (r : Fin 256) (l : Fin 128) : (rW k hk).emb (ix2 r l) = ix2 r (col k hk l) := by
  funext a; match a with
  | ⟨0, _⟩ => exact Fin.ext (by show 0 + 1 * r.val = r.val; omega)
  | ⟨1, _⟩ => exact Fin.ext (by show 128 * k + 1 * l.val = 128 * k + l.val; omega)
theorem embG (k : ℕ) (hk : k < 56) (r : Fin 1) (l : Fin 128) : (rG k hk).emb (ix2 r l) = ix2 r (col k hk l) := by
  funext a; match a with
  | ⟨0, _⟩ => exact Fin.ext (by show 0 + 1 * r.val = r.val; omega)
  | ⟨1, _⟩ => exact Fin.ext (by show 128 * k + 1 * l.val = 128 * k + l.val; omega)
theorem embS (k : ℕ) (hk : k < 56) (r : Fin 8) (l : Fin 128) : (rS k hk).emb (ix2 r l) = ix2 r (col k hk l) := by
  funext a; match a with
  | ⟨0, _⟩ => exact Fin.ext (by show 0 + 1 * r.val = r.val; omega)
  | ⟨1, _⟩ => exact Fin.ext (by show 128 * k + 1 * l.val = 128 * k + l.val; omega)

section

variable (arg1 : Memref sig .tc .vmem S256x2112 .bf16) (harg1 : arg1.IsWhole) (arg2 : Memref sig .tc .vmem S2112x7168 .bf16) (harg2 : arg2.IsWhole) (arg3 : Memref sig .tc .vmem S256x7168 .bf16) (harg3 : arg3.IsWhole) (arg4 : Memref sig .tc .vmem S256x128 .f32) (harg4 : arg4.IsWhole) (arg5 : Memref sig .tc .vmem S1x7168 .f32) (harg5 : arg5.IsWhole) (arg8 : Memref sig .tc .vmem S256x7168 .f32) (arg9 : Memref sig .tc .vmem S8x7168 .f32)
    (x0 : Vec Ideal S256x2112 .bf16) (x1 : Vec Ideal S2112x7168 .bf16) (x2 : Vec Ideal S256x7168 .bf16) (x3 : Vec Ideal S256x128 .f32) (x4 : Vec Ideal S1x7168 .f32)

/-- The product at an entry. -/
def dh (r : Fin 256) (d : Fin 7168) : EReal := ∑ k : Fin 2112, x0 (ix2 r k) * x1 (ix2 k d)

theorem PROD_eq : PROD arg1 harg1 arg2 harg2 x0 x1 = k0_pay4 x0 x1 := by
  unfold PROD
  rw [View.readAt_eq_ld, View.readAt_eq_ld, harg1.read_unread, harg2.read_unread,
    View.ld_unit_zero (by decide), View.ld_unit_zero (by decide)]

theorem pay4_apply (r : Fin 256) (d : Fin 7168) : k0_pay4 x0 x1 (ix2 r d) = dh x0 x1 r d := by
  pointwise [k0_pay4, dh]

theorem DH_apply (k : ℕ) (hk : k < 56) (r : Fin 256) (l : Fin 128) :
    DH arg1 harg1 arg2 harg2 arg8 x0 x1 k hk (ix2 r l) = dh x0 x1 r (col k hk l) := by
  unfold DH
  rw [View.readCov_fill _ _ _ _ _ (by decide), PROD_eq]
  show k0_pay4 x0 x1 ((rW k hk).emb (ix2 r l)) = _
  rw [embW, pay4_apply]

theorem XV_apply (k : ℕ) (hk : k < 56) (r : Fin 256) (l : Fin 128) :
    XV arg3 harg3 x2 k hk (ix2 r l) = x2 (ix2 r (col k hk l)) := by
  unfold XV
  rw [View.readAt_eq_ld, harg3.read_unread]
  show x2 ((rW k hk).emb (ix2 r l)) = _
  rw [embW]

theorem GB_apply (k : ℕ) (hk : k < 56) (r : Fin 256) (l : Fin 128) :
    GB arg5 harg5 x4 k hk (ix2 r l) = x4 (ix2 0 (col k hk l)) := by
  unfold GB
  rw [View.readAt_eq_ld, harg5.read_unread]
  pointwise

theorem R0_apply (r : Fin 256) (l : Fin 128) : R0 arg4 harg4 x3 (ix2 r l) = x3 (ix2 r l) := by
  unfold R0
  rw [View.readAt_eq_ld, harg4.read_unread, View.ld_unit_zero (by decide)]
  pointwise [k0_pay5]

/-- The lane sums of a row over the first `n` strips. -/
theorem ACC_apply (r : Fin 256) (l : Fin 128) : ∀ (n : ℕ) (h : n ≤ 56),
    ACC arg1 harg1 arg2 harg2 arg3 harg3 arg5 harg5 arg8 x0 x1 x2 x4 n h (ix2 r l)
      = ∑ k : Fin n, (dh x0 x1 r (col k.val (by omega) l) * x2 (ix2 r (col k.val (by omega) l))) * x4 (ix2 0 (col k.val (by omega) l))
  | 0, _ => by
      show (Ideal.ofBits .f32 0x00000000#32 : EReal) = _
      rw [Ideal.ofBits_zero_f32]; rfl
  | n + 1, h => by
      show ACC arg1 harg1 arg2 harg2 arg3 harg3 arg5 harg5 arg8 x0 x1 x2 x4 n _ (ix2 r l)
        + (DH arg1 harg1 arg2 harg2 arg8 x0 x1 n h (ix2 r l) * XV arg3 harg3 x2 n h (ix2 r l)) * GB arg5 harg5 x4 n h (ix2 r l) = _
      rw [ACC_apply r l n, DH_apply, XV_apply, GB_apply, Fin.sum_univ_castSucc]
      rfl

/-- The row's sum of `dh · x · g`. -/
def rowSum (r : Fin 256) : EReal := ∑ d : Fin 7168, (dh x0 x1 r d * x2 (ix2 r d)) * x4 (ix2 0 d)

theorem sum_lanes (f : Fin 7168 → EReal) :
    ∑ l : Fin 128, ∑ k : Fin 56, f (col k.val k.isLt l) = ∑ d : Fin 7168, f d := by
  rw [Finset.sum_comm]
  rw [← Fintype.sum_prod_type' (f := fun (k : Fin 56) (l : Fin 128) => f (col k.val k.isLt l))]
  refine Fintype.sum_equiv (finProdFinEquiv (m := 56) (n := 128)) _ (fun d : Fin (56 * 128) => f d) ?_
  rintro ⟨k, l⟩
  exact congrArg f (Fin.ext (by show 128 * k.val + l.val = l.val + 128 * k.val; omega))

theorem inv_d : (Named.named (F := Ideal) (φ := .f32) κ "inv_d" 0x39124925#32 : EReal) = ((1 / 7168 : ℝ) : EReal) :=
  IdealRules.named_const.ideal_named_scalar _ _ _ _ rfl

theorem FF_apply (r : Fin 256) (l : Fin 128) :
    FF arg1 harg1 arg2 harg2 arg3 harg3 arg4 harg4 arg5 harg5 arg8 x0 x1 x2 x3 x4 (ix2 r l)
      = (x3 (ix2 r l) * x3 (ix2 r l) * x3 (ix2 r l)) * (rowSum x0 x1 x2 x4 r * ((1 / 7168 : ℝ) : EReal)) := by
  unfold FF
  pointwise
  rw [R0_apply, inv_d]
  simp only [ACC_apply]
  rw [sum_lanes (fun d => (dh x0 x1 r d * x2 (ix2 r d)) * x4 (ix2 0 d))]
  rfl

/-- What a row of `dx` is stored as. -/
def dxv (r : Fin 256) (d : Fin 7168) : EReal :=
  x3 (ix2 r ⟨d.val % 128, Nat.mod_lt _ (by decide)⟩) * (dh x0 x1 r d * x4 (ix2 0 d))
    - x2 (ix2 r d) * ((x3 (ix2 r ⟨d.val % 128, Nat.mod_lt _ (by decide)⟩) * x3 (ix2 r ⟨d.val % 128, Nat.mod_lt _ (by decide)⟩) * x3 (ix2 r ⟨d.val % 128, Nat.mod_lt _ (by decide)⟩)) * (rowSum x0 x1 x2 x4 r * ((1 / 7168 : ℝ) : EReal)))

theorem lane_col (k : ℕ) (hk : k < 56) (l : Fin 128) : (⟨(col k hk l).val % 128, Nat.mod_lt _ (by decide)⟩ : Fin 128) = l :=
  Fin.ext (by show (128 * k + l.val) % 128 = l.val; omega)

theorem DX_apply (k : ℕ) (hk : k < 56) (r : Fin 256) (l : Fin 128) :
    DX arg1 harg1 arg2 harg2 arg3 harg3 arg4 harg4 arg5 harg5 arg8 x0 x1 x2 x3 x4 k hk (ix2 r l) = dxv x0 x1 x2 x3 x4 r (col k hk l) := by
  show R0 arg4 harg4 x3 (ix2 r l) * (DH arg1 harg1 arg2 harg2 arg8 x0 x1 k hk (ix2 r l) * GB arg5 harg5 x4 k hk (ix2 r l))
    - XV arg3 harg3 x2 k hk (ix2 r l) * FF arg1 harg1 arg2 harg2 arg3 harg3 arg4 harg4 arg5 harg5 arg8 x0 x1 x2 x3 x4 (ix2 r l) = _
  rw [R0_apply, DH_apply, GB_apply, XV_apply, FF_apply]
  unfold dxv
  rw [lane_col]

/-- The point's contribution to the column sums: row `r` of eight adds every eighth row of the block. -/
def csum (r : Fin 8) (d : Fin 7168) : EReal :=
  ∑ a : Fin 32, (dh x0 x1 ⟨a.val * 8 + r.val, by omega⟩ d * x2 (ix2 ⟨a.val * 8 + r.val, by omega⟩ d)) * x3 (ix2 ⟨a.val * 8 + r.val, by omega⟩ ⟨d.val % 128, Nat.mod_lt _ (by decide)⟩)

theorem DS_apply (k : ℕ) (hk : k < 56) (w : Vec Ideal S8x128 .f32) (r : Fin 8) (l : Fin 128) :
    DS arg1 harg1 arg2 harg2 arg3 harg3 arg4 harg4 arg8 x0 x1 x2 x3 k hk w (ix2 r l) = w (ix2 r l) + csum x0 x1 x2 x3 r (col k hk l) := by
  unfold DS DV csum
  pointwise
  have hl : (128 * k + l.val) % 128 = l.val := by omega
  simp only [DH_apply, XV_apply, R0_apply, hl]

/-! ## What the stores of the strips leave -/

theorem not_mem_rW (n : ℕ) (h : n < 56) (r : Fin 256) (d : Fin 7168) (hd : d.val < 128 * n) : ix2 r d ∉ (rW n h).set := by
  intro hm
  obtain ⟨x, hx⟩ := (rW n h).toLoadRect.exists_idx_of_mem hm
  have := congrArg (fun y => (y (1 : Fin 2)).val) hx
  have h2 : 128 * n + 1 * (x (1 : Fin 2)).val = d.val := this
  omega
theorem not_mem_rS (n : ℕ) (h : n < 56) (r : Fin 8) (d : Fin 7168) (hd : d.val < 128 * n) : ix2 r d ∉ (rS n h).set := by
  intro hm
  obtain ⟨x, hx⟩ := (rS n h).toLoadRect.exists_idx_of_mem hm
  have := congrArg (fun y => (y (1 : Fin 2)).val) hx
  have h2 : 128 * n + 1 * (x (1 : Fin 2)).val = d.val := this
  omega

theorem canonW_hit (n : ℕ) (h : n < 56) (w : Vec Ideal S256x128 .bf16) (L : List (View.Piece (Elt Ideal) S256x7168 .bf16)) (r : Fin 256) (l : Fin 128) :
    View.canon (⟨rW n h, w⟩ :: L) (ix2 r (col n h l)) = w (ix2 r l) := by
  rw [← embW]; exact View.canon_cons_emb (rW n h) w L (ix2 r l)
theorem canonW_skip (n : ℕ) (h : n < 56) (w : Vec Ideal S256x128 .bf16) (L : List (View.Piece (Elt Ideal) S256x7168 .bf16)) (r : Fin 256) (d : Fin 7168) (hd : d.val < 128 * n) :
    View.canon (⟨rW n h, w⟩ :: L) (ix2 r d) = View.canon L (ix2 r d) :=
  View.canon_cons_of_not_mem ⟨rW n h, w⟩ L (not_mem_rW n h r d hd)
theorem canonS_hit (n : ℕ) (h : n < 56) (w : Vec Ideal S8x128 .f32) (L : List (View.Piece (Elt Ideal) S8x7168 .f32)) (r : Fin 8) (l : Fin 128) :
    View.canon (⟨rS n h, w⟩ :: L) (ix2 r (col n h l)) = w (ix2 r l) := by
  rw [← embS]; exact View.canon_cons_emb (rS n h) w L (ix2 r l)
theorem canonS_skip (n : ℕ) (h : n < 56) (w : Vec Ideal S8x128 .f32) (L : List (View.Piece (Elt Ideal) S8x7168 .f32)) (r : Fin 8) (d : Fin 7168) (hd : ix2 r d ∉ (rS n h).set) :
    View.canon (⟨rS n h, w⟩ :: L) (ix2 r d) = View.canon L (ix2 r d) :=
  View.canon_cons_of_not_mem ⟨rS n h, w⟩ L hd

theorem col_surj (n : ℕ) (h : n < 56) (d : Fin 7168) (h1 : 128 * n ≤ d.val) (h2 : d.val < 128 * (n + 1)) : ∃ l : Fin 128, d = col n h l :=
  ⟨⟨d.val - 128 * n, by omega⟩, Fin.ext (by show d.val = 128 * n + (d.val - 128 * n); omega)⟩

theorem canon_PDX (r : Fin 256) (d : Fin 7168) : ∀ (n : ℕ) (h : n ≤ 56), d.val < 128 * n →
    View.canon (PDX arg1 harg1 arg2 harg2 arg3 harg3 arg4 harg4 arg5 harg5 arg8 x0 x1 x2 x3 x4 n h) (ix2 r d) = dxv x0 x1 x2 x3 x4 r d
  | 0, _, hd => absurd hd (by omega)
  | n + 1, h, hd => by
      by_cases h1 : 128 * n ≤ d.val
      · obtain ⟨l, rfl⟩ := col_surj n h d h1 hd
        exact (canonW_hit n h _ _ r l).trans (DX_apply _ _ _ _ _ _ _ _ _ _ _ _ _ _ _ _ n h r l)
      · exact (canonW_skip n h _ _ r d (by omega)).trans <| canon_PDX r d n _ (by omega)

theorem canon_PDS (harg9 : arg9.IsWhole) (xs : Vec Ideal S8x7168 .f32) (r : Fin 8) (d : Fin 7168) : ∀ (n : ℕ) (h : n ≤ 56), d.val < 128 * n →
    View.canon (PDS arg1 harg1 arg2 harg2 arg3 harg3 arg4 harg4 arg8 arg9 x0 x1 x2 x3 harg9 xs n h) (ix2 r d) = xs (ix2 r d) + csum x0 x1 x2 x3 r d
  | 0, _, hd => absurd hd (by omega)
  | n + 1, h, hd => by
      by_cases h1 : 128 * n ≤ d.val
      · obtain ⟨l, rfl⟩ := col_surj n h d h1 hd
        refine (canonS_hit n h _ _ r l).trans ?_
        rw [DS_apply, View.readAt_eq_ld, harg9.read_unread]
        show xs ((rS n h).emb (ix2 r l)) + _ = _
        rw [embS]
      · exact (canonS_skip n h _ _ r d (not_mem_rS n h r d (by omega))).trans <| canon_PDS harg9 xs r d n _ (by omega)

theorem pay3_apply (y : S8x7168.Idx) : (k0_pay3 (F := Ideal)) y = 0 := by
  show (Ideal.ofBits .f32 0x00000000#32 : EReal) = _
  rw [Ideal.ofBits_zero_f32]

/-- Past the strips stored so far the zeros of the first store stand. -/
theorem canon_PDZ_zero (r : Fin 8) (d : Fin 7168) : ∀ (n : ℕ) (h : n ≤ 56), 128 * n ≤ d.val →
    View.canon (PDZ arg1 harg1 arg2 harg2 arg3 harg3 arg4 harg4 arg8 arg9 x0 x1 x2 x3 n h) (ix2 r d) = (0 : EReal)
  | 0, _, _ => by
      show View.canon [_] _ = _
      rw [View.canon_cons_unit_lit _ _ _ (by decide)]
      exact pay3_apply _
  | n + 1, h, hd => by
      refine (canonS_skip n h _ _ r d ?_).trans (canon_PDZ_zero r d n _ (by omega))
      intro hm
      obtain ⟨x, hx⟩ := (rS n h).toLoadRect.exists_idx_of_mem hm
      have := congrArg (fun y => (y (1 : Fin 2)).val) hx
      have h2 : 128 * n + 1 * (x (1 : Fin 2)).val = d.val := this
      have h3 : (x (1 : Fin 2)).val < 128 := (x (1 : Fin 2)).isLt
      omega

theorem canon_PDZ (r : Fin 8) (d : Fin 7168) : ∀ (n : ℕ) (h : n ≤ 56), d.val < 128 * n →
    View.canon (PDZ arg1 harg1 arg2 harg2 arg3 harg3 arg4 harg4 arg8 arg9 x0 x1 x2 x3 n h) (ix2 r d) = csum x0 x1 x2 x3 r d
  | 0, _, hd => absurd hd (by omega)
  | n + 1, h, hd => by
      by_cases h1 : 128 * n ≤ d.val
      · obtain ⟨l, rfl⟩ := col_surj n h d h1 hd
        refine (canonS_hit n h _ _ r l).trans ?_
        rw [DS_apply, View.readCov_eq_canon']
        show View.canon _ ((rS n h).emb (ix2 r l)) + _ = _
        rw [embS, canon_PDZ_zero _ _ _ _ _ _ _ _ _ _ _ _ _ _ r _ n _ h1, zero_add]
      · exact (canonS_skip n h _ _ r d (not_mem_rS n h r d (by omega))).trans <| canon_PDZ r d n _ (by omega)

theorem pay2_apply (v : Vec Ideal S8x7168 .f32) (d : Fin 7168) : k0_pay2 v (ix2 0 d) = ∑ r : Fin 8, v (ix2 r d) := by
  pointwise [k0_pay2]

end

/-! ## The point's outputs -/

section

variable (c : Dev nD) (i : grid0.Coords) (arg1 : Memref sig .tc .vmem S256x2112 .bf16) (harg1 : arg1.IsWhole) (arg2 : Memref sig .tc .vmem S2112x7168 .bf16) (harg2 : arg2.IsWhole) (arg3 : Memref sig .tc .vmem S256x7168 .bf16) (harg3 : arg3.IsWhole) (arg4 : Memref sig .tc .vmem S256x128 .f32) (harg4 : arg4.IsWhole) (arg5 : Memref sig .tc .vmem S1x7168 .f32) (harg5 : arg5.IsWhole) (arg6 : Memref sig .tc .vmem S256x7168 .bf16) (harg6 : arg6.IsWhole) (arg7 : Memref sig .tc .vmem S1x7168 .f32) (harg7 : arg7.IsWhole) (arg8 : Memref sig .tc .vmem S256x7168 .f32) (harg8 : arg8.IsWhole) (arg9 : Memref sig .tc .vmem S8x7168 .f32) (harg9 : arg9.IsWhole)
    (x0 : Vec Ideal S256x2112 .bf16) (x1 : Vec Ideal S2112x7168 .bf16) (x2 : Vec Ideal S256x7168 .bf16) (x3 : Vec Ideal S256x128 .f32) (x4 : Vec Ideal S1x7168 .f32) (xs1 : Vec Ideal S8x7168 .f32)

theorem out5_A (hc0 : cond0_0 i) (hc1 : ¬cond0_1 i) (r : Fin 256) (d : Fin 7168) :
    out0_A_5 c i arg1 harg1 arg2 harg2 arg3 harg3 arg4 harg4 arg5 harg5 arg6 harg6 arg7 harg7 arg8 harg8 arg9 harg9 hc0 hc1 x0 x1 x2 x3 x4 (ix2 r d) = dxv x0 x1 x2 x3 x4 r d := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4), dx_A]
  exact canon_PDX _ _ _ _ _ _ _ _ _ _ _ _ _ _ _ _ r d 56 _ (by omega)

theorem sout_A (hc0 : cond0_0 i) (hc1 : ¬cond0_1 i) (r : Fin 8) (d : Fin 7168) :
    sout0_A_1 c i arg1 harg1 arg2 harg2 arg3 harg3 arg4 harg4 arg5 harg5 arg6 harg6 arg7 harg7 arg8 harg8 arg9 harg9 hc0 hc1 x0 x1 x2 x3 x4 (ix2 r d) = csum x0 x1 x2 x3 r d := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4), ds_A]
  exact canon_PDZ _ _ _ _ _ _ _ _ _ _ _ _ _ _ r d 56 _ (by omega)

theorem out5_B (hc0 : ¬cond0_0 i) (hc1 : ¬cond0_1 i) (r : Fin 256) (d : Fin 7168) :
    out0_B_5 c i arg1 harg1 arg2 harg2 arg3 harg3 arg4 harg4 arg5 harg5 arg6 harg6 arg7 harg7 arg8 harg8 arg9 harg9 hc0 hc1 x0 x1 x2 x3 x4 xs1 (ix2 r d) = dxv x0 x1 x2 x3 x4 r d := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xs1), dx_B]
  exact canon_PDX _ _ _ _ _ _ _ _ _ _ _ _ _ _ _ _ r d 56 _ (by omega)

theorem sout_B (hc0 : ¬cond0_0 i) (hc1 : ¬cond0_1 i) (r : Fin 8) (d : Fin 7168) :
    sout0_B_1 c i arg1 harg1 arg2 harg2 arg3 harg3 arg4 harg4 arg5 harg5 arg6 harg6 arg7 harg7 arg8 harg8 arg9 harg9 hc0 hc1 x0 x1 x2 x3 x4 xs1 (ix2 r d) = xs1 (ix2 r d) + csum x0 x1 x2 x3 r d := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs1), ds_B]
  exact canon_PDS _ _ _ _ _ _ _ _ _ _ _ _ _ _ _ _ r d 56 _ (by omega)

theorem out5_C (hc0 : ¬cond0_0 i) (hc1 : cond0_1 i) (r : Fin 256) (d : Fin 7168) :
    out0_C_5 c i arg1 harg1 arg2 harg2 arg3 harg3 arg4 harg4 arg5 harg5 arg6 harg6 arg7 harg7 arg8 harg8 arg9 harg9 hc0 hc1 x0 x1 x2 x3 x4 xs1 (ix2 r d) = dxv x0 x1 x2 x3 x4 r d := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs1), dx_C]
  exact canon_PDX _ _ _ _ _ _ _ _ _ _ _ _ _ _ _ _ r d 56 _ (by omega)

theorem sout_C (hc0 : ¬cond0_0 i) (hc1 : cond0_1 i) (r : Fin 8) (d : Fin 7168) :
    sout0_C_1 c i arg1 harg1 arg2 harg2 arg3 harg3 arg4 harg4 arg5 harg5 arg6 harg6 arg7 harg7 arg8 harg8 arg9 harg9 hc0 hc1 x0 x1 x2 x3 x4 xs1 (ix2 r d) = xs1 (ix2 r d) + csum x0 x1 x2 x3 r d := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs1), ds_C]
  exact canon_PDS _ _ _ _ _ _ _ _ _ _ _ _ _ _ _ _ r d 56 _ (by omega)

theorem out6_C (hc0 : ¬cond0_0 i) (hc1 : cond0_1 i) (d : Fin 7168) :
    out0_C_6 c i arg1 harg1 arg2 harg2 arg3 harg3 arg4 harg4 arg5 harg5 arg6 harg6 arg7 harg7 arg8 harg8 arg9 harg9 hc0 hc1 x0 x1 x2 x3 x4 xs1 (ix2 0 d) = ∑ r : Fin 8, (xs1 (ix2 r d) + csum x0 x1 x2 x3 r d) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs1), dg_C,
    View.canon_cons_unit_lit _ _ _ (by decide), pay2_apply, View.readCov_eq_canon']
  refine Finset.sum_congr rfl fun r _ => ?_
  show View.canon _ ((Rect.unit (s := S8x7168) ![0, 0] S8x7168.size inb_S8x7168_S8x7168_0_0).emb (ix2 r d)) = _
  rw [show (Rect.unit (s := S8x7168) ![0, 0] S8x7168.size inb_S8x7168_S8x7168_0_0).emb (ix2 r d) = ix2 r d from by
    funext a; match a with
    | ⟨0, _⟩ => exact Fin.ext (by show 0 + 1 * r.val = r.val; omega)
    | ⟨1, _⟩ => exact Fin.ext (by show 0 + 1 * d.val = d.val; omega)]
  exact canon_PDS _ _ _ _ _ _ _ _ _ _ _ _ _ _ _ _ r d 56 _ (by omega)

end

end Cert.DxIdeal.Block

end
-- ==== Proof.DxValue.lean ====
/-
  What `k7_dx` leaves in its two results, as functions of the arguments' entries: each point's blocks are rows of the arrays,
  the column sums are folded over the 32 points, and the last point adds their eight rows.
-/
module

public import proofs.«01_k».proof.Proof.DxRead
public import proofs.«01_k».proof.Proof.Gen.DxIdeal.Value

@[expose] public section

set_option maxRecDepth 65536

noncomputable section

namespace Cert.DxIdeal.Block

open Idealize.ShloMosaic Idealize.ShloMosaic.TcCoe Idealize.ShloMosaic.Tactic Idealize.SL.Sem Cert.DxIdeal.Gen Cert.DxIdeal.Value

variable (m : (ℓ : Loc nD τ sig) → Buf (Elt Ideal) ℓ) (c : Dev nD)

/-- The arguments, as arrays of extended reals. -/
abbrev A0 : Vec Ideal S8192x2112 .bf16 := m ((c.tc : Thread nD τ).loc main_arg0)
abbrev A1 : Vec Ideal S2112x7168 .bf16 := m ((c.tc : Thread nD τ).loc main_arg1)
abbrev A2 : Vec Ideal S8192x7168 .bf16 := m ((c.tc : Thread nD τ).loc main_arg2)
abbrev A3 : Vec Ideal S8192x1 .f32 := m ((c.tc : Thread nD τ).loc main_arg3)
abbrev A4 : Vec Ideal S1x7168 .f32 := m ((c.tc : Thread nD τ).loc main_arg4)

/-- Row `r` of point `t`'s blocks. -/
abbrev row (t : Fin cfg0.N) (r : Fin 256) : Fin 8192 := ⟨256 * t.val + r.val, by have := lt_of_lt_of_eq t.isLt N_0; omega⟩

theorem index_rows : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = 0 ∧ win0_4.index t (1 : Fin 2) = 0) :=
  (by decide +kernel : ∀ t : Fin grid0.N, _)

theorem V_arg0 : V m c main_arg0 = A0 m c := by unfold V; after_results
theorem V_arg1 : V m c main_arg1 = A1 m c := by unfold V; after_results
theorem V_arg2 : V m c main_arg2 = A2 m c := by unfold V; after_results
theorem V_arg4 : V m c main_arg4 = A4 m c := by unfold V; after_results
theorem V_v0 : V m c main_v0 = broadcastInDim S8192x128 ![0, 1] bcast_S8192x1_S8192x128_0_1 (A3 m c) := by unfold V; after_results

theorem iblk0 (t : Fin cfg0.N) (r : Fin 256) (k : Fin 2112) : iblk m c 0 t (ix2 r k) = A0 m c (ix2 (row t r) k) := by
  show V m c main_arg0 (((cfg0.win 0).blk t).view.emb (ix2 r k)) = _
  rw [V_arg0]
  refine congrArg (A0 m c) (funext fun a => Fin.ext ?_)
  obtain ⟨⟨e, e'⟩, -⟩ := index_rows t
  match a with
  | ⟨0, _⟩ => show win0_0.index t (0 : Fin 2) * 256 + 1 * r.val = 256 * t.val + r.val; rw [e]; omega
  | ⟨1, _⟩ => show win0_0.index t (1 : Fin 2) * 2112 + 1 * k.val = k.val; rw [e']; omega

theorem iblk1 (t : Fin cfg0.N) (k : Fin 2112) (d : Fin 7168) : iblk m c 1 t (ix2 k d) = A1 m c (ix2 k d) := by
  show V m c main_arg1 (((cfg0.win 1).blk t).view.emb (ix2 k d)) = _
  rw [V_arg1]
  refine congrArg (A1 m c) (funext fun a => Fin.ext ?_)
  obtain ⟨-, ⟨e, e'⟩, -⟩ := index_rows t
  match a with
  | ⟨0, _⟩ => show win0_1.index t (0 : Fin 2) * 2112 + 1 * k.val = k.val; rw [e]; omega
  | ⟨1, _⟩ => show win0_1.index t (1 : Fin 2) * 7168 + 1 * d.val = d.val; rw [e']; omega

theorem iblk2 (t : Fin cfg0.N) (r : Fin 256) (d : Fin 7168) : iblk m c 2 t (ix2 r d) = A2 m c (ix2 (row t r) d) := by
  show V m c main_arg2 (((cfg0.win 2).blk t).view.emb (ix2 r d)) = _
  rw [V_arg2]
  refine congrArg (A2 m c) (funext fun a => Fin.ext ?_)
  obtain ⟨-, -, ⟨e, e'⟩, -⟩ := index_rows t
  match a with
  | ⟨0, _⟩ => show win0_2.index t (0 : Fin 2) * 256 + 1 * r.val = 256 * t.val + r.val; rw [e]; omega
  | ⟨1, _⟩ => show win0_2.index t (1 : Fin 2) * 7168 + 1 * d.val = d.val; rw [e']; omega

theorem iblk3 (t : Fin cfg0.N) (r : Fin 256) (l : Fin 128) : iblk m c 3 t (ix2 r l) = A3 m c (ix2 (row t r) 0) := by
  show V m c main_v0 (((cfg0.win 3).blk t).view.emb (ix2 r l)) = _
  rw [V_v0]
  rw [show ((cfg0.win 3).blk t).view.emb (ix2 r l) = ix2 (row t r) l from funext fun a => Fin.ext (by
    obtain ⟨-, -, -, ⟨e, e'⟩, -⟩ := index_rows t
    match a with
    | ⟨0, _⟩ => show win0_3.index t (0 : Fin 2) * 256 + 1 * r.val = 256 * t.val + r.val; rw [e]; omega
    | ⟨1, _⟩ => show win0_3.index t (1 : Fin 2) * 128 + 1 * l.val = l.val; rw [e']; omega)]
  pointwise

theorem iblk4 (t : Fin cfg0.N) (d : Fin 7168) : iblk m c 4 t (ix2 0 d) = A4 m c (ix2 0 d) := by
  show V m c main_arg4 (((cfg0.win 4).blk t).view.emb (ix2 0 d)) = _
  rw [V_arg4]
  refine congrArg (A4 m c) (funext fun a => Fin.ext ?_)
  obtain ⟨-, -, -, -, ⟨e, e'⟩⟩ := index_rows t
  match a with
  | ⟨0, _⟩ => show win0_4.index t (0 : Fin 2) * 1 + 1 * 0 = 0; rw [e]
  | ⟨1, _⟩ => show win0_4.index t (1 : Fin 2) * 7168 + 1 * d.val = d.val; rw [e']; omega

/-! ## The arrays' closed forms -/

/-- The product `da · waᵀ` at an entry. -/
def H (s : Fin 8192) (d : Fin 7168) : EReal := ∑ k : Fin 2112, A0 m c (ix2 s k) * A1 m c (ix2 k d)

/-- `dx` at an entry. -/
def DXV (s : Fin 8192) (d : Fin 7168) : EReal :=
  A3 m c (ix2 s 0) * (H m c s d * A4 m c (ix2 0 d))
    - A2 m c (ix2 s d) * ((A3 m c (ix2 s 0) * A3 m c (ix2 s 0) * A3 m c (ix2 s 0))
        * ((∑ e : Fin 7168, (H m c s e * A2 m c (ix2 s e)) * A4 m c (ix2 0 e)) * ((1 / 7168 : ℝ) : EReal)))

/-- One row's term of the gain's gradient. -/
def DGT (s : Fin 8192) (d : Fin 7168) : EReal := (H m c s d * A2 m c (ix2 s d)) * A3 m c (ix2 s 0)

theorem dh_iblk (t : Fin cfg0.N) (r : Fin 256) (d : Fin 7168) : dh (iblk m c 0 t) (iblk m c 1 t) r d = H m c (row t r) d := by
  unfold dh H
  exact Finset.sum_congr rfl fun k _ => congrArg₂ _ (iblk0 m c t r k) (iblk1 m c t k d)

theorem dxv_iblk (t : Fin cfg0.N) (r : Fin 256) (d : Fin 7168) :
    dxv (iblk m c 0 t) (iblk m c 1 t) (iblk m c 2 t) (iblk m c 3 t) (iblk m c 4 t) r d = DXV m c (row t r) d := by
  have hs : rowSum (iblk m c 0 t) (iblk m c 1 t) (iblk m c 2 t) (iblk m c 4 t) r
      = ∑ e : Fin 7168, (H m c (row t r) e * A2 m c (ix2 (row t r) e)) * A4 m c (ix2 0 e) := by
    unfold rowSum
    refine Finset.sum_congr rfl fun e _ => ?_
    rw [dh_iblk, iblk2, iblk4]
  unfold dxv DXV
  rw [hs, dh_iblk, iblk2, iblk3, iblk4]

theorem csum_iblk (t : Fin cfg0.N) (r : Fin 8) (d : Fin 7168) :
    csum (iblk m c 0 t) (iblk m c 1 t) (iblk m c 2 t) (iblk m c 3 t) r d
      = ∑ a : Fin 32, DGT m c (row t ⟨a.val * 8 + r.val, by omega⟩) d := by
  unfold csum DGT
  refine Finset.sum_congr rfl fun a _ => ?_
  rw [dh_iblk, iblk2, iblk3]

/-! ## The fold over the points -/

/-- The column sums a point adds. -/
def CS (n : ℕ) (hn : n < cfg0.N) (r : Fin 8) (d : Fin 7168) : EReal := ∑ a : Fin 32, DGT m c (row ⟨n, hn⟩ ⟨a.val * 8 + r.val, by omega⟩) d

theorem st_dx (t : Fin cfg0.N) (acc) (r : Fin 256) (d : Fin 7168) : (stAt0 m c t.val t.isLt acc).1 (ix2 r d) = DXV m c (row t r) d := by
  have hN := lt_of_lt_of_eq t.isLt N_0
  by_cases h0 : t.val % 32 = 0
  · rw [stAt0_A m c t acc h0 (by omega)]; dsimp only; rw [out5_A]; exact dxv_iblk m c t r d
  · by_cases h1 : t.val % 32 = 31
    · rw [stAt0_C m c t acc h0 h1]; dsimp only; rw [out5_C]; exact dxv_iblk m c t r d
    · rw [stAt0_B m c t acc h0 h1]; dsimp only; rw [out5_B]; exact dxv_iblk m c t r d

theorem st_ds_zero (t : Fin cfg0.N) (h0 : t.val % 32 = 0) (acc) (r : Fin 8) (d : Fin 7168) : (stAt0 m c t.val t.isLt acc).2.2 (ix2 r d) = CS m c t.val t.isLt r d := by
  rw [stAt0_A m c t acc h0 (by omega)]; dsimp only; rw [sout_A]; exact csum_iblk m c t r d

theorem st_ds (t : Fin cfg0.N) (h0 : ¬t.val % 32 = 0) (acc) (r : Fin 8) (d : Fin 7168) :
    (stAt0 m c t.val t.isLt acc).2.2 (ix2 r d) = acc.2.2 (ix2 r d) + CS m c t.val t.isLt r d := by
  by_cases h1 : t.val % 32 = 31
  · rw [stAt0_C m c t acc h0 h1]; dsimp only; rw [sout_C, csum_iblk]; rfl
  · rw [stAt0_B m c t acc h0 h1]; dsimp only; rw [sout_B, csum_iblk]; rfl

theorem st_dg (t : Fin cfg0.N) (h1 : t.val % 32 = 31) (acc) (d : Fin 7168) :
    (stAt0 m c t.val t.isLt acc).2.1 (ix2 0 d) = ∑ r : Fin 8, (acc.2.2 (ix2 r d) + CS m c t.val t.isLt r d) := by
  rw [stAt0_C m c t acc (by omega) h1]
  dsimp only
  rw [out6_C]
  refine Finset.sum_congr rfl fun r _ => ?_
  rw [csum_iblk]; rfl

theorem outs_dx (n : ℕ) (hn : n < cfg0.N) (r : Fin 256) (d : Fin 7168) : (outsAt0 m c n hn).1 (ix2 r d) = DXV m c (row ⟨n, hn⟩ r) d := by
  cases n with
  | zero => rw [outsAt0_zero]; exact st_dx m c ⟨0, hn⟩ _ r d
  | succ n => rw [outsAt0_succ]; exact st_dx m c ⟨n + 1, hn⟩ _ r d

theorem outs_ds (r : Fin 8) (d : Fin 7168) : ∀ (n : ℕ) (hn : n < cfg0.N),
    (outsAt0 m c n hn).2.2 (ix2 r d) = ∑ t : Fin (n + 1), CS m c t.val (by omega) r d
  | 0, hn => by
      rw [outsAt0_zero, st_ds_zero m c ⟨0, hn⟩ rfl]
      exact (Fin.sum_univ_one (fun t : Fin 1 => CS m c t.val (by omega) r d)).symm
  | n + 1, hn => by
      have hN := lt_of_lt_of_eq hn N_0
      rw [outsAt0_succ, st_ds m c ⟨n + 1, hn⟩ (by show ¬(n + 1) % 32 = 0; omega), outs_ds r d n, Fin.sum_univ_castSucc (n := n + 1)]
      rfl

theorem outs_dg (d : Fin 7168) (hn : 31 < cfg0.N) :
    (outsAt0 m c 31 hn).2.1 (ix2 0 d) = ∑ r : Fin 8, ∑ t : Fin 32, CS m c t.val (by omega) r d := by
  rw [outsAt0_succ, st_dg m c ⟨31, hn⟩ rfl]
  refine Finset.sum_congr rfl fun r _ => ?_
  rw [outs_ds m c r d 30, Fin.sum_univ_castSucc (n := 31)]
  rfl

/-- Adding a column's 8192 rows point by point, eight at a time, adds them all. -/
theorem sum_rows (f : Fin 8192 → EReal) :
    ∑ r : Fin 8, ∑ t : Fin 32, ∑ a : Fin 32, f ⟨256 * t.val + (a.val * 8 + r.val), by omega⟩ = ∑ s : Fin 8192, f s := by
  rw [Finset.sum_comm]
  have h1 : ∀ t : Fin 32, ∑ r : Fin 8, ∑ a : Fin 32, f ⟨256 * t.val + (a.val * 8 + r.val), by omega⟩ = ∑ q : Fin 256, f ⟨256 * t.val + q.val, by omega⟩ := fun t => by
    rw [Finset.sum_comm, ← Fintype.sum_prod_type' (f := fun (a : Fin 32) (r : Fin 8) => f ⟨256 * t.val + (a.val * 8 + r.val), by omega⟩)]
    refine Fintype.sum_equiv (finProdFinEquiv (m := 32) (n := 8)) _ (fun q : Fin (32 * 8) => f ⟨256 * t.val + q.val, by omega⟩) ?_
    rintro ⟨a, r⟩
    exact congrArg f (Fin.ext (by show 256 * t.val + (a.val * 8 + r.val) = 256 * t.val + (r.val + 8 * a.val); omega))
  simp only [h1]
  rw [← Fintype.sum_prod_type' (f := fun (t : Fin 32) (q : Fin 256) => f ⟨256 * t.val + q.val, by omega⟩)]
  refine Fintype.sum_equiv (finProdFinEquiv (m := 32) (n := 256)) _ (fun s : Fin (32 * 256) => f s) ?_
  rintro ⟨t, q⟩
  exact congrArg f (Fin.ext (by show 256 * t.val + q.val = q.val + 256 * t.val; omega))

/-! ## The results -/

theorem G5_apply (s : Fin 8192) (d : Fin 7168) : G5 m c (ix2 s d) = DXV m c s d := by
  have hp : pt5Of (ix2 s d) = s.val / 256 := by
    show 1 * (s.val / 256 - 0) + 1 * (d.val / 7168 - 0) = _
    rw [Nat.div_eq_of_lt d.isLt]; omega
  have hlt : pt5Of (ix2 s d) < cfg0.N := lt_of_lt_of_eq (by rw [hp]; omega) N_0.symm
  unfold G5
  rw [dif_pos hlt, ← outsAt0_sweep m c (pt5Of (ix2 s d)) hlt,
    show loc5Of (ix2 s d) = ix2 (⟨s.val % 256, Nat.mod_lt _ (by decide)⟩ : Fin 256) d from funext fun a => Fin.ext (by
      match a with
      | ⟨0, _⟩ => rfl
      | ⟨1, _⟩ => show d.val % 7168 = d.val; exact Nat.mod_eq_of_lt d.isLt), outs_dx]
  refine congrArg (DXV m c · d) (Fin.ext ?_)
  show 256 * pt5Of (ix2 s d) + s.val % 256 = s.val
  rw [hp]; omega

theorem G6_apply (d : Fin 7168) : G6 m c (ix2 0 d) = ∑ s : Fin 8192, DGT m c s d := by
  have hp : pt6Of (ix2 0 d) = 31 := by
    show 32 * (1 * (0 / 1 - 0) + 1 * (d.val / 7168 - 0)) + 31 = _
    rw [Nat.div_eq_of_lt d.isLt]
  have hlt : pt6Of (ix2 0 d) < cfg0.N := lt_of_lt_of_eq (by rw [hp]; omega) N_0.symm
  have h31 : 31 < cfg0.N := by rw [← hp]; exact hlt
  unfold G6
  rw [dif_pos hlt, ← outsAt0_sweep m c (pt6Of (ix2 0 d)) hlt,
    show loc6Of (ix2 0 d) = ix2 (0 : Fin 1) d from funext fun a => Fin.ext (by
      match a with
      | ⟨0, _⟩ => rfl
      | ⟨1, _⟩ => show d.val % 7168 = d.val; exact Nat.mod_eq_of_lt d.isLt)]
  have : ∀ (n : ℕ) (h : n < cfg0.N), n = 31 → (outsAt0 m c n h).2.1 (ix2 0 d) = ∑ s : Fin 8192, DGT m c s d := by
    rintro n h rfl
    rw [outs_dg]
    exact sum_rows (fun s => DGT m c s d)
  exact this _ _ hp

end Cert.DxIdeal.Block

end
-- ==== Proof.DxClaim.lean ====
/-
  The claims about `k7_dx`: both programs leave `dx` and the gain's gradient at the same function of the arguments.
-/
module

public import proofs.«01_k».proof.Defs
public import proofs.«01_k».proof.Proof.DxValue
public import proofs.«01_k».proof.Proof.Gen.Dx.Frame
public import proofs.«01_k».proof.Proof.Gen.DxRefIdeal.Run
public import Idealize.ShloMosaic.Lib.Quiescent

@[expose] public section

set_option maxRecDepth 65536

noncomputable section

namespace Cert.DxIdeal.Block

open Idealize.ShloMosaic Idealize.ShloMosaic.TcCoe Idealize.ShloMosaic.Tactic Idealize.SL.Sem

theorem preserves : Cert.preserves_Dx_DxIdeal := IdealRules.named_const.statement Cert.DxIdeal.κ "inv_d" .f32 0x39124925#32 _ rfl

theorem quiescent_ref : Cert.quiescent_DxRefIdeal := fun m g _ =>
  (θ_run _ _ _).mono (fun r h => ⟨fun c => (h c).2.2, sem_eq_zero_of_no_sems rfl r.2⟩) (Cert.DxRefIdeal.Value.run (F := Ideal) m g)

/-! ## The reference's terms at an entry -/

section

open Cert.DxRefIdeal Cert.DxRefIdeal.Gen

variable (a0 : Vec Ideal S8192x2112 .bf16) (a1 : Vec Ideal S2112x7168 .bf16) (a2 : Vec Ideal S8192x7168 .bf16) (a3 : Vec Ideal S8192x1 .f32) (a4 : Vec Ideal S1x7168 .f32)

/-- The reference's `dx`, over its arguments. -/
abbrev refDx : FVec Ideal S8192x7168 .bf16 :=
  truncf .bf16 (subf (mulf (broadcastInDim S8192x7168 ![0, 1] bcast_S8192x1_S8192x7168_0_1 a3) (mulf (Host.dotGeneral dot_S8192x2112_S2112x7168_S8192x7168_1_0_0_1_n_n none (φ₁ := .bf16) (φ₂ := .bf16) a0 a1) (broadcastInDim S8192x7168 ![0, 1] bcast_S1x7168_S8192x7168_0_1 a4)))
    (mulf (mulf (extf .f32 a2 bitsLt_bf16_f32) (broadcastInDim S8192x7168 ![0, 1] bcast_S8192x1_S8192x7168_0_1 (mulf (mulf a3 a3) a3)))
      (broadcastInDim S8192x7168 ![0, 1] bcast_S8192x1_S8192x7168_0_1 (Host.divf (broadcastInDim S8192x1 ![0] bcast_S8192_S8192x1_0 (Host.reduceAdd (mulf (mulf (Host.dotGeneral dot_S8192x2112_S2112x7168_S8192x7168_1_0_0_1_n_n none (φ₁ := .bf16) (φ₂ := .bf16) a0 a1) (broadcastInDim S8192x7168 ![0, 1] bcast_S1x7168_S8192x7168_0_1 a4)) (extf .f32 a2 bitsLt_bf16_f32)) (constant S_ .f32 0x00000000#32) reducesTo_S8192x7168_S8192_d1 h_S_)) (broadcastInDim S8192x1 ![] bcast_S_S8192x1 (constant S_ .f32 0x45E00000#32)))))) bitsLt_bf16_f32

/-- The reference's gradient of the gain, over its arguments. -/
abbrev refDg : FVec Ideal S1x7168 .f32 :=
  broadcastInDim S1x7168 ![1] bcast_S7168_S1x7168_1 (Host.reduceAdd (mulf (mulf (Host.dotGeneral dot_S8192x2112_S2112x7168_S8192x7168_1_0_0_1_n_n none (φ₁ := .bf16) (φ₂ := .bf16) a0 a1) (extf .f32 a2 bitsLt_bf16_f32)) (broadcastInDim S8192x7168 ![0, 1] bcast_S8192x1_S8192x7168_0_1 a3)) (constant S_ .f32 0x00000000#32) reducesTo_S8192x7168_S7168_d0 h_S_)

theorem bits_7168 : Ideal.ofBits .f32 0x45E00000#32 = ((7168 : ℝ) : EReal) := by
  simp [Ideal.ofBits, Ideal.ieee, -EReal.coe_mul]; norm_num

theorem refDx_apply (s : Fin 8192) (d : Fin 7168) : refDx a0 a1 a2 a3 a4 (ix2 s d)
    = a3 (ix2 s 0) * ((∑ k : Fin 2112, a0 (ix2 s k) * a1 (ix2 k d)) * a4 (ix2 0 d))
      - (a2 (ix2 s d) * (a3 (ix2 s 0) * a3 (ix2 s 0) * a3 (ix2 s 0)))
        * ((∑ e : Fin 7168, ((∑ k : Fin 2112, a0 (ix2 s k) * a1 (ix2 k e)) * a4 (ix2 0 e)) * a2 (ix2 s e)) * ((1 / 7168 : ℝ) : EReal)) := by
  pointwise [refDx]
  rw [bits_7168, Ideal.div_coe (by norm_num : (7168 : ℝ) ≠ 0)]

theorem refDg_apply (d : Fin 7168) : refDg a0 a1 a2 a3 (ix2 0 d)
    = ∑ s : Fin 8192, ((∑ k : Fin 2112, a0 (ix2 s k) * a1 (ix2 k d)) * a2 (ix2 s d)) * a3 (ix2 s 0) := by
  pointwise [refDg]

end

/-! ## The two agree -/

section

open Cert.DxIdeal Cert.DxIdeal.Gen Cert.DxIdeal.Value

variable (m : (ℓ : Loc nD τ sig) → Buf (Elt Ideal) ℓ) (c : Dev nD)

theorem dx_eq : refDx (A0 m c) (A1 m c) (A2 m c) (A3 m c) (A4 m c) = G5 m c := by
  refine funext fun i => ?_
  obtain ⟨s, d, rfl⟩ : ∃ (s : Fin 8192) (d : Fin 7168), i = ix2 s d := ⟨i 0, i 1, (ix2_eta (n0 := 8192) (n1 := 7168) i).symm⟩
  rw [G5_apply, refDx_apply]
  unfold DXV H
  rw [mul_assoc (A2 m c (ix2 s d))]
  simp only [mul_right_comm _ (A4 m c _) (A2 m c _)]

theorem dg_eq : refDg (A0 m c) (A1 m c) (A2 m c) (A3 m c) = G6 m c := by
  refine funext fun i => ?_
  obtain ⟨d, rfl⟩ : ∃ (d : Fin 7168), i = ix2 0 d := ⟨i 1, by
    funext a; match a with
    | ⟨0, _⟩ => exact Subsingleton.elim (α := Fin 1) _ _
    | ⟨1, _⟩ => rfl⟩
  rw [G6_apply, refDg_apply]
  rfl

end

theorem algebraic : Cert.algebraic_DxIdeal_DxRefIdeal := by
  intro m g m' g' _ hagree
  refine ⟨fun c => Cert.DxIdeal.Value.G5 m c, fun c => Cert.DxIdeal.Value.G6 m c, Cert.DxIdeal.Value.run (F := Ideal) m g, ?_⟩
  refine (θ_run _ _ _).mono (fun r h c => ?_) (Cert.DxRefIdeal.Value.run (F := Ideal) m' g')
  obtain ⟨h0, h1, hk⟩ := h c
  obtain ⟨e0, e1, e2, e3, e4⟩ := hagree c
  refine ⟨h0.trans ?_, h1.trans ?_, hk⟩
  · rw [e0, e1, e2, e3, e4]; exact dx_eq m c
  · rw [e0, e1, e2, e3]; exact dg_eq m c

end Cert.DxIdeal.Block

end
-- ==== Proof.MidBlock.lean ====
/-
  What one grid point of the kernel `k4_mid` stores, in a vocabulary of whole 128-lane strips: strip `k` of `dy`, the power of
  two each of its rows is scaled by, its codes and their product with the scale; the weights of the four heads times their
  scales.  The printed run's pieces are these, by computation.
-/
module

public import proofs.«01_k».proof.Proof.Gen.MidIdeal.Frame

@[expose] public section

set_option maxRecDepth 65536

noncomputable section

namespace Cert.MidIdeal.Block

open Idealize.ShloMosaic Idealize.ShloMosaic.TcCoe Idealize.ShloMosaic.Tactic Cert.MidIdeal.Gen

variable {F : FTy → Type} [FloatOps F]

/-- Strip `k` lies inside an array of 256 rows. -/
theorem inbW (k : ℕ) (hk : k < 56) : ∀ a, (![0, 128 * k] : Fin 2 → ℕ) a + S256x128.size a ≤ S256x7168.size a := by
  intro a; match a with
  | ⟨0, _⟩ => show 0 + 256 ≤ 256; omega
  | ⟨1, _⟩ => show 128 * k + 128 ≤ 7168; omega

/-- Strip `k` as a rectangle. -/
abbrev rW (k : ℕ) (hk : k < 56) : Rect S256x7168 := Rect.unit (s := S256x7168) ![0, 128 * k] S256x128.size (inbW k hk)

/-! ## The scale of a strip's rows -/

/-- The largest magnitude of each row over 448. -/
def AMAX (v : FVec F S256x128 .f32) : FVec F S256x1 .f32 :=
  mulf (shapeCast S256x1 (multiReduction .maximumf [1] S256 (absf v) 0xFF800000#32 reduces_S256x128_S256 (.inl rfl) rfl) shapeCasts_S256_S256x1)
    (broadcast S256x1 (Scalar.ofBits .f32 0x3B124925#32))

/-- One comparison of the search for the exponent. -/
def STEP (x : FVec F S256x1 .f32) (e : IVec S256x1 32) (k : BitVec 32) : IVec S256x1 32 :=
  select (cmpf .oge x (bitcastToFloat .f32 (shli (addi e (broadcast S256x1 k)) (broadcast S256x1 23#32))))
    (addi e (broadcast S256x1 k)) e

/-- The exponent's field. -/
def EXPO (x : FVec F S256x1 .f32) : IVec S256x1 32 :=
  minsi (STEP x (STEP x (STEP x (STEP x (STEP x (STEP x (STEP x (STEP x (broadcast S256x1 0#32) 128#32) 64#32) 32#32) 16#32) 8#32) 4#32) 2#32) 1#32)
    (broadcast S256x1 252#32)

/-- The word of the scale. -/
def WORD (x : FVec F S256x1 .f32) : IVec S256x1 32 :=
  select (cmpf .oeq x (broadcast S256x1 (Scalar.ofBits .f32 0x00000000#32))) (broadcast S256x1 1065353216#32)
    (addi (shli (EXPO x) (broadcast S256x1 23#32)) (broadcast S256x1 8388608#32))

def SCALE (x : FVec F S256x1 .f32) : FVec F S256x1 .f32 := bitcastToFloat .f32 (WORD x)
def INV (x : FVec F S256x1 .f32) : FVec F S256x1 .f32 := bitcastToFloat .f32 (subi (broadcast S256x1 2130706432#32) (WORD x))

/-- The codes of a strip, and the codes times the scale. -/
def CODES (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf v (broadcastTo S256x128 (INV (AMAX v)) broadcasts_S256x1_S256x128)))) bitsLt_fp8e4m3_f32
def DEQ (v : FVec F S256x128 .f32) : FVec F S256x128 .bf16 :=
  shapeCast S256x128 (mulf (extf .bf16 (CODES v) bitsLt_fp8e4m3_bf16)
    (broadcastTo S256x128 (truncf .bf16 (SCALE (AMAX v)) bitsLt_bf16_f32) broadcasts_S256x1_S256x128)) shapeCasts_S256x128_S256x128

section

variable (arg1 : Memref sig .tc .vmem S256x7168 .bf16) (harg1 : arg1.IsWhole) (x0 : Vec F S256x7168 .bf16)

/-- Strip `k` of `dy`, widened. -/
def XV (k : ℕ) (hk : k < 56) : FVec F S256x128 .f32 :=
  extf .f32 (View.readAt (Elt F) arg1.view (rW k hk).toLoadRect (harg1.unread x0)) bitsLt_bf16_f32

/-- The stores of the first `n` strips of codes, of dequantised rows, the last first. -/
def PC : (n : ℕ) → n ≤ 56 → List (View.Piece (Elt F) S256x7168 .fp8e4m3)
  | 0, _ => []
  | n + 1, h => ⟨rW n h, CODES (XV arg1 harg1 x0 n h)⟩ :: PC n (Nat.le_of_succ_le h)
def PD : (n : ℕ) → n ≤ 56 → List (View.Piece (Elt F) S256x7168 .bf16)
  | 0, _ => []
  | n + 1, h => ⟨rW n h, DEQ (XV arg1 harg1 x0 n h)⟩ :: PD n (Nat.le_of_succ_le h)

/-- The scales, column by column, over the first `n` strips. -/
def SC : (n : ℕ) → n ≤ 56 → FVec F S256x56 .f32
  | 0, _ => broadcast S256x56 (Scalar.ofBits .f32 0x00000000#32)
  | n + 1, h => select (cmpi .eq (iota .tc S256x56 32 [1] iota_S256x56_d1_w32) (broadcast S256x56 (BitVec.ofNat 32 n)))
      (broadcastTo S256x56 (shapeCast S256x1 (SCALE (AMAX (XV arg1 harg1 x0 n h))) shapeCasts_S256x1_S256x1) broadcasts_S256x1_S256x56)
      (SC n (Nat.le_of_succ_le h))

end

/-! ## The heads -/

theorem inbH (h : ℕ) (hh : h < 4) : ∀ a, (![128 * h, 0] : Fin 2 → ℕ) a + S128x7168.size a ≤ S512x7168.size a := by
  intro a; match a with
  | ⟨0, _⟩ => show 128 * h + 128 ≤ 512; omega
  | ⟨1, _⟩ => show 0 + 7168 ≤ 7168; omega
theorem inbR (h : ℕ) (hh : h < 4) : ∀ a, (![h, 0] : Fin 2 → ℕ) a + S1x7168.size a ≤ S4x7168.size a := by
  intro a; match a with
  | ⟨0, _⟩ => show h + 1 ≤ 4; omega
  | ⟨1, _⟩ => show 0 + 7168 ≤ 7168; omega

/-- The rows of head `h`, the row of its scales. -/
abbrev rH (h : ℕ) (hh : h < 4) : Rect S512x7168 := Rect.unit (s := S512x7168) ![128 * h, 0] S128x7168.size (inbH h hh)
abbrev rR (h : ℕ) (hh : h < 4) : Rect S4x7168 := Rect.unit (s := S4x7168) ![h, 0] S1x7168.size (inbR h hh)

/-- The whole of the weights, of the dequantised rows. -/
abbrev rWo : Rect S512x7168 := Rect.unit (s := S512x7168) ![0, 0] S512x7168.size inb_S512x7168_S512x7168_0_0
abbrev rDy : Rect S256x7168 := Rect.unit (s := S256x7168) ![0, 0] S256x7168.size inb_S256x7168_S256x7168_0_0

section

variable (arg1 : Memref sig .tc .vmem S256x7168 .bf16) (harg1 : arg1.IsWhole) (arg2 : Memref sig .tc .vmem S256x512 .bf16) (harg2 : arg2.IsWhole) (arg3 : Memref sig .tc .vmem S512x256 .f32) (harg3 : arg3.IsWhole) (arg4 : Memref sig .tc .vmem S4x1x256 .f32) (harg4 : arg4.IsWhole) (arg5 : Memref sig .tc .vmem S512x7168 .fp8e4m3) (harg5 : arg5.IsWhole) (arg6 : Memref sig .tc .vmem S4x7168 .f32) (harg6 : arg6.IsWhole) (arg13 : Memref sig .tc .vmem S512x7168 .bf16) (harg13 : arg13.IsWhole) (arg14 : Memref sig .tc .vmem S256x7168 .bf16)
    (x0 : Vec F S256x7168 .bf16) (x1 : Vec F S256x512 .bf16) (x2 : Vec F S512x256 .f32) (x3 : Vec F S4x1x256 .f32) (x4 : Vec F S512x7168 .fp8e4m3) (x5 : Vec F S4x7168 .f32) (xs0 : Vec F S512x7168 .bf16)

/-- The weights of head `h` times their scales. -/
def WH (h : ℕ) (hh : h < 4) : FVec F S128x7168 .bf16 :=
  shapeCast S128x7168 (mulf (extf .bf16 (View.readAt (Elt F) arg5.view (rH h hh).toLoadRect (harg5.unread x4)) bitsLt_fp8e4m3_bf16)
    (broadcastTo S128x7168 (truncf .bf16 (View.readAt (Elt F) arg6.view (rR h hh).toLoadRect (harg6.unread x5)) bitsLt_bf16_f32) broadcasts_S1x7168_S128x7168)) shapeCasts_S128x7168_S128x7168

/-- The stores of the first `n` heads' weights, the last first. -/
def PW : (n : ℕ) → n ≤ 4 → List (View.Piece (Elt F) S512x7168 .bf16)
  | 0, _ => []
  | n + 1, h => ⟨rH n h, WH arg5 harg5 arg6 harg6 x4 x5 n h⟩ :: PW n (Nat.le_of_succ_le h)

/-- The weights as a point reads them: just stored, or left by the point before. -/
def WA : Vec F S512x7168 .bf16 := arg13.view.readCov (Val := Elt F) (PW arg5 harg5 arg6 harg6 x4 x5 4 (le_refl _)) rWo.toLoadRect
def WB : Vec F S512x7168 .bf16 := View.readAt (Elt F) arg13.view rWo.toLoadRect (harg13.unread xs0)

/-- The dequantised rows as they are read. -/
def DYD : Vec F S256x7168 .bf16 := arg14.view.readCov (Val := Elt F) (PD arg1 harg1 x0 56 (le_refl _)) rDy.toLoadRect

variable (w : Vec F S512x7168 .bf16)

/-- The stores of `y`, of the gradient, of its sums against `o` by head, of the transposed statistics. -/
def PY : List (View.Piece (Elt F) S256x7168 .bf16) :=
  [⟨Rect.unit (s := S256x7168) ![0, 0] S256x7168.size inb_S256x7168_S256x7168_0_0, k0_pay691 (View.readAt (Elt F) arg2.view (Rect.unit (s := S256x512) ![0, 0] S256x512.size inb_S256x512_S256x512_0_0).toLoadRect (harg2.unread x1)) w⟩]
def PT : List (View.Piece (Elt F) S512x256 .bf16) :=
  [⟨Rect.unit (s := S512x256) ![0, 0] S512x256.size inb_S512x256_S512x256_0_0, k0_pay693 w (DYD arg1 harg1 arg14 x0)⟩]
def PS : List (View.Piece (Elt F) S4x1x256 .f32) :=
  [⟨Rect.unit (s := S4x1x256) ![3, 0, 0] S1x1x256.size inb_S4x1x256_S1x1x256_3_0_0, k0_pay698 (k0_pay697 w (DYD arg1 harg1 arg14 x0) (View.readAt (Elt F) arg3.view (Rect.unit (s := S512x256) ![384, 0] S128x256.size inb_S512x256_S128x256_384_0).toLoadRect (harg3.unread x2)))⟩,
   ⟨Rect.unit (s := S4x1x256) ![2, 0, 0] S1x1x256.size inb_S4x1x256_S1x1x256_2_0_0, k0_pay696 w (DYD arg1 harg1 arg14 x0) (View.readAt (Elt F) arg3.view (Rect.unit (s := S512x256) ![256, 0] S128x256.size inb_S512x256_S128x256_256_0).toLoadRect (harg3.unread x2))⟩,
   ⟨Rect.unit (s := S4x1x256) ![1, 0, 0] S1x1x256.size inb_S4x1x256_S1x1x256_1_0_0, k0_pay695 w (DYD arg1 harg1 arg14 x0) (View.readAt (Elt F) arg3.view (Rect.unit (s := S512x256) ![128, 0] S128x256.size inb_S512x256_S128x256_128_0).toLoadRect (harg3.unread x2))⟩,
   ⟨Rect.unit (s := S4x1x256) ![0, 0, 0] S1x1x256.size inb_S4x1x256_S1x1x256_0_0_0, k0_pay694 w (DYD arg1 harg1 arg14 x0) (View.readAt (Elt F) arg3.view (Rect.unit (s := S512x256) ![0, 0] S128x256.size inb_S512x256_S128x256_0_0).toLoadRect (harg3.unread x2))⟩]
def PN : List (View.Piece (Elt F) S256x4 .f32) :=
  [⟨Rect.unit (s := S256x4) ![0, 0] S256x4.size inb_S256x4_S256x4_0_0, k0_pay1 (k0_pay699
    (View.readAt (Elt F) arg4.view (Rect.unit (s := S4x1x256) ![0, 0, 0] S1x1x256.size inb_S4x1x256_S1x1x256_0_0_0).toLoadRect (harg4.unread x3))
    (View.readAt (Elt F) arg4.view (Rect.unit (s := S4x1x256) ![1, 0, 0] S1x1x256.size inb_S4x1x256_S1x1x256_1_0_0).toLoadRect (harg4.unread x3))
    (View.readAt (Elt F) arg4.view (Rect.unit (s := S4x1x256) ![2, 0, 0] S1x1x256.size inb_S4x1x256_S1x1x256_2_0_0).toLoadRect (harg4.unread x3))
    (View.readAt (Elt F) arg4.view (Rect.unit (s := S4x1x256) ![3, 0, 0] S1x1x256.size inb_S4x1x256_S1x1x256_3_0_0).toLoadRect (harg4.unread x3)))⟩]

end

end Cert.MidIdeal.Block

end
-- ==== Proof.MidPieces.lean ====
/-
  The lists of pieces that the printed run of `k4_mid` finds are the strips of `Block`.
-/
module

public import proofs.«01_k».proof.Proof.MidBlock

@[expose] public section

set_option maxRecDepth 65536

noncomputable section

namespace Cert.MidIdeal.Block

open Idealize.ShloMosaic Idealize.ShloMosaic.TcCoe Idealize.ShloMosaic.Tactic Cert.MidIdeal.Gen

variable {F : FTy → Type} [FloatOps F]

variable (c : Dev nD) (i : grid0.Coords) (arg1 : Memref sig .tc .vmem S256x7168 .bf16) (harg1 : arg1.IsWhole) (arg2 : Memref sig .tc .vmem S256x512 .bf16) (harg2 : arg2.IsWhole) (arg3 : Memref sig .tc .vmem S512x256 .f32) (harg3 : arg3.IsWhole) (arg4 : Memref sig .tc .vmem S4x1x256 .f32) (harg4 : arg4.IsWhole) (arg5 : Memref sig .tc .vmem S512x7168 .fp8e4m3) (harg5 : arg5.IsWhole) (arg6 : Memref sig .tc .vmem S4x7168 .f32) (harg6 : arg6.IsWhole) (arg7 : Memref sig .tc .vmem S256x7168 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S512x256 .bf16) (harg10 : arg10.IsWhole) (arg11 : Memref sig .tc .vmem S4x1x256 .f32) (harg11 : arg11.IsWhole) (arg12 : Memref sig .tc .vmem S256x4 .f32) (harg12 : arg12.IsWhole) (arg13 : Memref sig .tc .vmem S512x7168 .bf16) (harg13 : arg13.IsWhole) (arg14 : Memref sig .tc .vmem S256x7168 .bf16) (harg14 : arg14.IsWhole)
    (x0 : Vec F S256x7168 .bf16) (x1 : Vec F S256x512 .bf16) (x2 : Vec F S512x256 .f32) (x3 : Vec F S4x1x256 .f32) (x4 : Vec F S512x7168 .fp8e4m3) (x5 : Vec F S4x7168 .f32) (xs0 : Vec F S512x7168 .bf16)

theorem y_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 = PY arg2 harg2 x1 (WA arg5 harg5 arg6 harg6 arg13 x4 x5) := by
  unfold kernelRun0_A; dsimp only; rfl

theorem codes_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 = PC arg1 harg1 x0 56 (le_refl _) := by
  unfold kernelRun0_A; dsimp only; rfl

theorem scales_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 = [⟨Rect.unit (s := S256x56) ![0, 0] S256x56.size inb_S256x56_S256x56_0_0, SC arg1 harg1 x0 56 (le_refl _)⟩] := by
  unfold kernelRun0_A; dsimp only; rfl

theorem grad_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 = PT arg1 harg1 arg14 x0 (WA arg5 harg5 arg6 harg6 arg13 x4 x5) := by
  unfold kernelRun0_A; dsimp only; rfl

theorem sums_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 = PS arg1 harg1 arg3 harg3 arg14 x0 x2 (WA arg5 harg5 arg6 harg6 arg13 x4 x5) := by
  unfold kernelRun0_A; dsimp only; rfl

theorem stats_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1 = PN arg4 harg4 x3 := by
  unfold kernelRun0_A; dsimp only; rfl

theorem weights_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1 = PW arg5 harg5 arg6 harg6 x4 x5 4 (le_refl _) := by
  unfold kernelRun0_A; dsimp only; rfl

theorem y_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).1 = PY arg2 harg2 x1 (WB arg13 harg13 xs0) := by
  unfold kernelRun0_B; dsimp only; rfl

theorem codes_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.1 = PC arg1 harg1 x0 56 (le_refl _) := by
  unfold kernelRun0_B; dsimp only; rfl

theorem scales_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.1 = [⟨Rect.unit (s := S256x56) ![0, 0] S256x56.size inb_S256x56_S256x56_0_0, SC arg1 harg1 x0 56 (le_refl _)⟩] := by
  unfold kernelRun0_B; dsimp only; rfl

theorem grad_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.1 = PT arg1 harg1 arg14 x0 (WB arg13 harg13 xs0) := by
  unfold kernelRun0_B; dsimp only; rfl

theorem sums_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.1 = PS arg1 harg1 arg3 harg3 arg14 x0 x2 (WB arg13 harg13 xs0) := by
  unfold kernelRun0_B; dsimp only; rfl

theorem stats_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.1 = PN arg4 harg4 x3 := by
  unfold kernelRun0_B; dsimp only; rfl

end Cert.MidIdeal.Block

end
-- ==== Proof.MidScale.lean ====
/-
  The power of two a group is scaled by, read at the ideal instance: the kernel finds the exponent of `x` by eight comparisons
  with powers of two and puts it in a float's word; the reference states `2 ^ (⌊log₂ x⌋ + 1)`, the exponent kept in
  [−126, 126].  The two are one function of every extended real.
-/
module

public import Idealize.ShloMosaic.PureOps.Ideal

@[expose] public section

noncomputable section

namespace Cert.Scale

open Idealize.ShloMosaic

/-! ## The kernel's words -/

/-- One comparison of the search: the exponent grows by `k` where `x` reaches the power of two. -/
def step (x : EReal) (e k : BitVec 32) : BitVec 32 :=
  Scalar.select (Ideal.cmp .oge x (Ideal.ofBits .f32 (IntOp.shli .vector (IntOp.addi e k) 23#32))) (IntOp.addi e k) e

/-- The exponent's field. -/
def expo (x : EReal) : BitVec 32 :=
  IntOp.minsi (step x (step x (step x (step x (step x (step x (step x (step x 0#32 128#32) 64#32) 32#32) 16#32) 8#32) 4#32) 2#32) 1#32) 252#32

/-- The word of the scale. -/
def word (x : EReal) : BitVec 32 :=
  Scalar.select (Ideal.cmp .oeq x (Ideal.ofBits .f32 0x00000000#32)) 1065353216#32
    (IntOp.addi (IntOp.shli .vector (expo x) 23#32) 8388608#32)

/-- The scale and its inverse. -/
def scale (x : EReal) : EReal := Ideal.ofBits .f32 (word x)
def inv (x : EReal) : EReal := Ideal.ofBits .f32 (IntOp.subi 2130706432#32 (word x))

/-! ## The reference's exponent -/

/-- `⌊log₂ x⌋ + 1` kept in [−126, 126]; zero at zero. -/
def rexp (x : EReal) : EReal :=
  Scalar.select (Ideal.cmp .oeq x (Ideal.ofBits .f32 0x00000000#32)) (Ideal.ofBits .f32 0x00000000#32)
    (min (((126#32).toInt : ℝ) : EReal) (max (((4294967170#32).toInt : ℝ) : EReal)
      (Ideal.liftRound Int.floor (Ideal.div (Ideal.log x) (Ideal.log (Ideal.ofBits .f32 0x40000000#32))) + Ideal.ofBits .f32 0x3F800000#32)))

/-! ## Words as powers of two -/

/-- The value of exponent field `n` over a zero fraction. -/
def val (n : ℕ) : EReal := if n = 0 then 0 else if n = 255 then ⊤ else (((2 : ℝ) ^ ((n : ℤ) - 127) : ℝ) : EReal)

theorem fields : ∀ n : Fin 256, ((BitVec.ofNat 32 n.val <<< 23).extractLsb' 31 1 = 0#1)
    ∧ ((BitVec.ofNat 32 n.val <<< 23).extractLsb' 23 8).toNat = n.val ∧ ((BitVec.ofNat 32 n.val <<< 23).extractLsb' 0 23).toNat = 0 := by
  decide +kernel

theorem ofBits_val (n : ℕ) (hn : n < 256) : Ideal.ofBits .f32 (BitVec.ofNat 32 n <<< 23) = val n := by
  obtain ⟨h1, h2, h3⟩ := fields ⟨n, hn⟩
  dsimp only at h1 h2 h3
  show Ideal.ieee 8 23 _ = _
  unfold Ideal.ieee val
  simp only [show 8 + 23 = 31 from rfl, h1, h2, h3]
  by_cases h0 : n = 0
  · subst h0; simp
  by_cases h5 : n = 255
  · subst h5; simp
  · rw [if_neg (by norm_num; omega), if_neg h0, if_neg h0, if_neg h5]
    rw [EReal.coe_eq_coe_iff, show (n : ℤ) - 127 = 23 + ((n : ℤ) - (2 ^ (8 - 1) - 1) - 23) by norm_num, zpow_add₀ (by norm_num)]
    norm_num

theorem ofBits_zero : Ideal.ofBits .f32 0x00000000#32 = (0 : EReal) := by
  simpa [val] using ofBits_val 0 (by norm_num)
theorem ofBits_one : Ideal.ofBits .f32 0x3F800000#32 = (1 : EReal) := by
  simpa [val] using ofBits_val 127 (by norm_num)
theorem ofBits_two : Ideal.ofBits .f32 0x40000000#32 = ((2 : ℝ) : EReal) := by
  simpa [val] using ofBits_val 128 (by norm_num)

theorem addi_ofNat (n k : ℕ) : IntOp.addi (BitVec.ofNat 32 n) (BitVec.ofNat 32 k) = BitVec.ofNat 32 (n + k) :=
  (BitVec.ofNat_add n k).symm
theorem shli_23 (b : BitVec 32) : IntOp.shli .vector b 23#32 = b <<< 23 := rfl
theorem minsi_252 : ∀ n : Fin 256, IntOp.minsi (BitVec.ofNat 32 n.val) 252#32 = BitVec.ofNat 32 (min n.val 252) := by decide +kernel
theorem next_word : ∀ n : Fin 253, IntOp.addi (BitVec.ofNat 32 n.val <<< 23) 8388608#32 = BitVec.ofNat 32 (n.val + 1) <<< 23 := by decide +kernel
theorem inv_word : ∀ n : Fin 253, IntOp.subi 2130706432#32 (BitVec.ofNat 32 (n.val + 1) <<< 23) = BitVec.ofNat 32 (253 - n.val) <<< 23 := by decide +kernel

/-! ## The search -/

/-- What the search knows before the comparison by half of `k`. -/
def Inv (x : EReal) (k : ℕ) (b : BitVec 32) : Prop :=
  ∃ n : ℕ, b = BitVec.ofNat 32 n ∧ n + k ≤ 256 ∧ (n = 0 ∨ val n ≤ x) ∧ (n + k = 256 ∨ x < val (n + k))

theorem step_inv (x : EReal) (k : ℕ) (hk : 0 < k) (b : BitVec 32) (h : Inv x (k + k) b) : Inv x k (step x b (BitVec.ofNat 32 k)) := by
  obtain ⟨n, rfl, hle, hlo, hhi⟩ := h
  unfold step
  rw [addi_ofNat, shli_23, ofBits_val _ (by omega)]
  by_cases hc : val (n + k) ≤ x
  · refine ⟨n + k, ?_, by omega, .inr hc, ?_⟩
    · simp [Scalar.select, Ideal.cmp, hc]
    · rw [add_assoc]; exact hhi
  · refine ⟨n, ?_, by omega, hlo, .inr (not_le.mp hc)⟩
    simp [Scalar.select, Ideal.cmp, hc]

theorem search (x : EReal) : ∃ n : ℕ, n < 256 ∧ expo x = BitVec.ofNat 32 (min n 252) ∧ (n = 0 ∨ val n ≤ x) ∧ (n = 255 ∨ x < val (n + 1)) := by
  have h0 : Inv x (128 + 128) 0#32 := ⟨0, rfl, by norm_num, .inl rfl, .inl (by norm_num)⟩
  have h1 := step_inv x 128 (by norm_num) _ h0
  have h2 := step_inv x 64 (by norm_num) _ h1
  have h3 := step_inv x 32 (by norm_num) _ h2
  have h4 := step_inv x 16 (by norm_num) _ h3
  have h5 := step_inv x 8 (by norm_num) _ h4
  have h6 := step_inv x 4 (by norm_num) _ h5
  have h7 := step_inv x 2 (by norm_num) _ h6
  obtain ⟨n, he, hle, hlo, hhi⟩ := step_inv x 1 (by norm_num) _ h7
  refine ⟨n, by omega, ?_, hlo, hhi.imp (by omega) id⟩
  unfold expo
  rw [← minsi_252 ⟨n, by omega⟩]
  exact congrArg (IntOp.minsi · 252#32) he

/-! ## The reference's exponent is the one found -/

theorem le_floor_log (r : ℝ) (hr : 0 < r) (z : ℤ) : z ≤ ⌊Real.log r * (Real.log 2)⁻¹⌋ ↔ (2 : ℝ) ^ z ≤ r := by
  rw [Int.le_floor, ← div_eq_mul_inv, le_div_iff₀ (Real.log_pos (by norm_num)), ← Real.log_zpow,
    Real.log_le_log_iff (by positivity) hr]

theorem log_two_ne : ((Real.log 2 : ℝ) : EReal) ≠ 0 := by
  rw [Ne, EReal.coe_eq_zero]; exact (Real.log_pos (by norm_num)).ne'

theorem log_two : Ideal.log (Ideal.ofBits .f32 0x40000000#32) = ((Real.log 2 : ℝ) : EReal) := by
  rw [ofBits_two]; show (if (2 : ℝ) ≤ 0 then (⊥ : EReal) else _) = _
  rw [if_neg (by norm_num)]

theorem toInt_hi : (((126#32).toInt : ℝ) : EReal) = ((126 : ℝ) : EReal) := by
  rw [show (126#32).toInt = 126 from by decide]; norm_num
theorem toInt_lo : (((4294967170#32).toInt : ℝ) : EReal) = ((-126 : ℝ) : EReal) := by
  rw [show (4294967170#32).toInt = -126 from by decide]; norm_num

theorem inv_log_two_pos : (0 : ℝ) < (Real.log 2)⁻¹ := inv_pos.mpr (Real.log_pos (by norm_num))

theorem rexp_of_ne (x : EReal) (hx : x ≠ 0) : rexp x
    = min ((126 : ℝ) : EReal) (max ((-126 : ℝ) : EReal) (Ideal.liftRound Int.floor (Ideal.log x * (((Real.log 2)⁻¹ : ℝ) : EReal)) + 1)) := by
  unfold rexp
  rw [ofBits_zero, log_two, toInt_hi, toInt_lo, ofBits_one, Ideal.div, if_neg log_two_ne, ← EReal.coe_inv]
  simp [Scalar.select, Ideal.cmp, hx]

theorem rexp_eq (x : EReal) (hx : x ≠ 0) : ∃ e : ℕ, e ≤ 252 ∧ expo x = BitVec.ofNat 32 e ∧ rexp x = (((e : ℝ) - 126 : ℝ) : EReal) := by
  obtain ⟨n, hn, he, hlo, hhi⟩ := search x
  refine ⟨min n 252, by omega, he, ?_⟩
  rw [rexp_of_ne x hx]
  have hval : ∀ k : ℕ, 0 ≤ val k := fun k => by
    unfold val; split_ifs
    · exact le_refl _
    · exact le_top
    · exact_mod_cast (by positivity : (0 : ℝ) ≤ (2 : ℝ) ^ ((k : ℤ) - 127))
  induction x using EReal.rec with
  | bot =>
    have hn0 : n = 0 := hlo.resolve_right fun h => absurd ((hval n).trans h) (by simp)
    subst hn0
    show min _ (max _ (Ideal.liftRound Int.floor (⊥ * _) + 1)) = _
    rw [EReal.bot_mul_coe_of_pos inv_log_two_pos]
    show min _ (max _ ((⊥ : EReal) + 1)) = _
    rw [EReal.bot_add, max_eq_left bot_le, min_eq_right (by exact_mod_cast (by norm_num : (-126 : ℝ) ≤ 126))]
    norm_num
  | top =>
    have hn5 : n = 255 := hhi.resolve_right fun h => absurd h (by simp)
    subst hn5
    show min _ (max _ (Ideal.liftRound Int.floor (⊤ * _) + 1)) = _
    rw [EReal.top_mul_coe_of_pos inv_log_two_pos]
    show min _ (max _ ((⊤ : EReal) + 1)) = _
    rw [show (⊤ : EReal) + 1 = ⊤ from rfl, max_eq_right le_top, min_eq_left le_top]
    norm_num
  | coe r =>
    have hr0 : r ≠ 0 := fun h => hx (by rw [h]; rfl)
    rcases lt_or_gt_of_ne hr0 with hneg | hpos
    · have hn0 : n = 0 := hlo.resolve_right fun h => absurd ((hval n).trans h) (by rw [not_le]; exact_mod_cast hneg)
      subst hn0
      rw [show Ideal.log (r : EReal) = ⊥ from if_pos hneg.le, EReal.bot_mul_coe_of_pos inv_log_two_pos]
      show min _ (max _ ((⊥ : EReal) + 1)) = _
      rw [EReal.bot_add, max_eq_left bot_le, min_eq_right (by exact_mod_cast (by norm_num : (-126 : ℝ) ≤ 126))]
      norm_num
    · rw [show Ideal.log (r : EReal) = ((Real.log r : ℝ) : EReal) from if_neg (not_le.mpr hpos), ← EReal.coe_mul]
      show min _ (max _ (((⌊Real.log r * (Real.log 2)⁻¹⌋ : ℝ) : EReal) + 1)) = _
      have hle := le_floor_log r hpos
      generalize ⌊Real.log r * (Real.log 2)⁻¹⌋ = z at hle ⊢
      have hn5 : n ≠ 255 := by
        rintro rfl
        rcases hlo with h | h
        · omega
        · exact absurd h (by simp [val])
      have key : min (126 : ℤ) (max (-126) (z + 1)) = (min n 252 : ℕ) - 126 := by
        have lo : n ≠ 0 → (n : ℤ) - 127 ≤ z := fun h0 => (hle _).mpr (by
          have := hlo.resolve_left h0
          rw [val, if_neg h0, if_neg hn5] at this
          exact_mod_cast this)
        have hi : n ≠ 254 → z < (n : ℤ) - 126 := fun h4 => by
          by_contra hge
          have h := (hle _).mp (not_lt.mp hge)
          have h' := hhi.resolve_left hn5
          rw [val, if_neg (by omega), if_neg (by omega)] at h'
          rw [EReal.coe_lt_coe_iff, show ((n + 1 : ℕ) : ℤ) - 127 = (n : ℤ) - 126 by push_cast; ring] at h'
          exact absurd h (not_le.mpr h')
        by_cases h0 : n = 0
        · have := hi (by omega); omega
        · have := lo h0
          by_cases h4 : n = 254
          · omega
          · have := hi h4; omega
      have key' : min (126 : ℝ) (max (-126) ((z : ℝ) + 1)) = ((min n 252 : ℕ) : ℝ) - 126 := by exact_mod_cast key
      rw [← key', EReal.coe_strictMono.monotone.map_min, EReal.coe_strictMono.monotone.map_max]
      norm_cast

/-! ## The two scales are one -/

theorem scale_eq (x : EReal) : scale x = Ideal.exp2 (rexp x) ∧ inv x = Ideal.exp2 (Ideal.ofBits .f32 0x00000000#32 - rexp x) := by
  by_cases hx : x = 0
  · subst hx
    have hr : rexp 0 = ((0 : ℝ) : EReal) := by
      unfold rexp; rw [ofBits_zero]; simp [Scalar.select, Ideal.cmp]
    have hw : word 0 = BitVec.ofNat 32 127 <<< 23 := by
      unfold word; rw [ofBits_zero]; simp [Scalar.select, Ideal.cmp]
    rw [hr, ofBits_zero]
    have h1 : Ideal.exp2 ((0 : ℝ) : EReal) = 1 := by show ((Real.rpow 2 0 : ℝ) : EReal) = 1; simp
    refine ⟨?_, ?_⟩
    · rw [h1]; unfold scale; rw [hw, ofBits_val _ (by norm_num)]; simp [val]
    · rw [show (0 : EReal) - ((0 : ℝ) : EReal) = ((0 : ℝ) : EReal) by simp, h1]
      unfold inv; rw [hw]
      exact ofBits_one
  · obtain ⟨e, hle, he, hr⟩ := rexp_eq x hx
    have hw : word x = BitVec.ofNat 32 (e + 1) <<< 23 := by
      unfold word
      rw [he, shli_23, next_word ⟨e, by omega⟩, ofBits_zero]
      simp [Scalar.select, Ideal.cmp, hx]
    rw [hr, ofBits_zero]
    refine ⟨?_, ?_⟩
    · unfold scale
      rw [hw, ofBits_val _ (by omega), val, if_neg (by omega), if_neg (by omega)]
      show _ = ((Real.rpow 2 _ : ℝ) : EReal)
      congr 1
      show _ = (2 : ℝ) ^ ((e : ℝ) - 126)
      rw [← Real.rpow_intCast]; congr 1; push_cast; ring
    · rw [show (0 : EReal) - (((e : ℝ) - 126 : ℝ) : EReal) = ((126 - (e : ℝ) : ℝ) : EReal) by
        rw [zero_sub, ← EReal.coe_neg]; congr 1; ring]
      unfold inv
      rw [hw, inv_word ⟨e, by omega⟩, ofBits_val _ (by omega), val, if_neg (by omega), if_neg (by omega)]
      show _ = ((Real.rpow 2 _ : ℝ) : EReal)
      congr 1
      show _ = (2 : ℝ) ^ (126 - (e : ℝ))
      rw [← Real.rpow_intCast]; congr 1
      rw [Nat.cast_sub (by omega)]; push_cast; ring

/-! ## A group of 128 -/

/-- The largest magnitude over 448, and a code. -/
def gmax (f : Fin 128 → EReal) : EReal :=
  Finset.univ.fold max (Ideal.ofBits .f32 0xFF800000#32) (fun l => max (f l) (-(f l))) * Ideal.ofBits .f32 0x3B124925#32
def code (f : Fin 128 → EReal) (l : Fin 128) : EReal :=
  min (Ideal.ofBits .f32 0x43E00000#32) (max (Ideal.ofBits .f32 0xC3E00000#32) (f l * inv (gmax f)))

end Cert.Scale

end
-- ==== Proof.MidRead.lean ====
/-
  The strips of `Block` at an index, at the ideal instance: each load reads its block, each strip reads its columns of the
  whole, and the stores leave functions of the blocks' entries.
-/
module

public import proofs.«01_k».proof.Proof.MidPieces
public import proofs.«01_k».proof.Proof.MidScale
public import Idealize.ShloMosaic.Lib.Pointwise
public import Idealize.ShloMosaic.Lib.Pipeline.ReadBack

@[expose] public section

set_option maxRecDepth 65536

noncomputable section

namespace Cert.MidIdeal.Block

open Idealize.ShloMosaic Idealize.ShloMosaic.TcCoe Idealize.ShloMosaic.Tactic Cert.MidIdeal.Gen

/-- Column `l` of strip `k`. -/
abbrev col (k : ℕ) (hk : k < 56) (l : Fin 128) : Fin 7168 := ⟨128 * k + l.val, by omega⟩

theorem embW (k : ℕ) (hk : k < 56) (r : Fin 256) (l : Fin 128) : (rW k hk).emb (ix2 r l) = ix2 r (col k hk l) := by
  funext a; match a with
  | ⟨0, _⟩ => exact Fin.ext (by show 0 + 1 * r.val = r.val; omega)
  | ⟨1, _⟩ => exact Fin.ext (by show 128 * k + 1 * l.val = 128 * k + l.val; omega)

/-! ## The scale of a strip's rows -/

theorem step_apply (x : FVec Ideal S256x1 .f32) (e : IVec S256x1 32) (k : BitVec 32) (r : Fin 256) :
    STEP x e k (ix2 r 0) = Cert.Scale.step (x (ix2 r 0)) (e (ix2 r 0)) k := rfl

theorem expo_apply (x : FVec Ideal S256x1 .f32) (r : Fin 256) : EXPO x (ix2 r 0) = Cert.Scale.expo (x (ix2 r 0)) := by
  unfold EXPO Cert.Scale.expo
  show IntOp.minsi (STEP _ _ _ (ix2 r 0)) 252#32 = _
  rw [step_apply, step_apply, step_apply, step_apply, step_apply, step_apply, step_apply, step_apply]
  rfl

theorem word_apply (x : FVec Ideal S256x1 .f32) (r : Fin 256) : WORD x (ix2 r 0) = Cert.Scale.word (x (ix2 r 0)) := by
  unfold WORD Cert.Scale.word
  rw [← expo_apply]
  generalize EXPO x = e
  rfl

theorem SCALE_apply (x : FVec Ideal S256x1 .f32) (r : Fin 256) : SCALE x (ix2 r 0) = Cert.Scale.scale (x (ix2 r 0)) := by
  unfold SCALE Cert.Scale.scale
  rw [← word_apply]
  generalize WORD x = e
  rfl
theorem INV_apply (x : FVec Ideal S256x1 .f32) (r : Fin 256) : INV x (ix2 r 0) = Cert.Scale.inv (x (ix2 r 0)) := by
  unfold INV Cert.Scale.inv
  rw [← word_apply]
  generalize WORD x = e
  rfl

theorem AMAX_apply (v : FVec Ideal S256x128 .f32) (r : Fin 256) : AMAX v (ix2 r 0) = Cert.Scale.gmax fun l => v (ix2 r l) := by
  pointwise [AMAX]
  rfl

theorem CODES_apply (v : FVec Ideal S256x128 .f32) (r : Fin 256) (l : Fin 128) : CODES v (ix2 r l) = Cert.Scale.code (fun l => v (ix2 r l)) l := by
  unfold CODES
  generalize hi : INV (AMAX v) = i
  pointwise
  rw [← hi, INV_apply, AMAX_apply]
  rfl

theorem DEQ_apply (v : FVec Ideal S256x128 .f32) (r : Fin 256) (l : Fin 128) :
    DEQ v (ix2 r l) = Cert.Scale.code (fun l => v (ix2 r l)) l * Cert.Scale.scale (Cert.Scale.gmax fun l => v (ix2 r l)) := by
  unfold DEQ
  generalize hi : SCALE (AMAX v) = i
  generalize hc : CODES v = c
  pointwise
  rw [← hi, ← hc, CODES_apply, SCALE_apply, AMAX_apply]

section

variable (arg1 : Memref sig .tc .vmem S256x7168 .bf16) (harg1 : arg1.IsWhole) (arg2 : Memref sig .tc .vmem S256x512 .bf16) (harg2 : arg2.IsWhole) (arg3 : Memref sig .tc .vmem S512x256 .f32) (harg3 : arg3.IsWhole) (arg4 : Memref sig .tc .vmem S4x1x256 .f32) (harg4 : arg4.IsWhole) (arg5 : Memref sig .tc .vmem S512x7168 .fp8e4m3) (harg5 : arg5.IsWhole) (arg6 : Memref sig .tc .vmem S4x7168 .f32) (harg6 : arg6.IsWhole) (arg13 : Memref sig .tc .vmem S512x7168 .bf16) (harg13 : arg13.IsWhole) (arg14 : Memref sig .tc .vmem S256x7168 .bf16)
    (x0 : Vec Ideal S256x7168 .bf16) (x1 : Vec Ideal S256x512 .bf16) (x2 : Vec Ideal S512x256 .f32) (x3 : Vec Ideal S4x1x256 .f32) (x4 : Vec Ideal S512x7168 .fp8e4m3) (x5 : Vec Ideal S4x7168 .f32) (xs0 : Vec Ideal S512x7168 .bf16)

theorem XV_apply (k : ℕ) (hk : k < 56) (r : Fin 256) (l : Fin 128) : XV arg1 harg1 x0 k hk (ix2 r l) = x0 (ix2 r (col k hk l)) := by
  show View.readAt (Elt Ideal) arg1.view (rW k hk).toLoadRect (harg1.unread x0) (ix2 r l) = _
  rw [View.readAt_eq_ld, harg1.read_unread]
  show x0 ((rW k hk).emb (ix2 r l)) = _
  rw [embW]

/-- Group `k` of row `r`. -/
abbrev grp (k : ℕ) (hk : k < 56) (r : Fin 256) : Fin 128 → EReal := fun l => x0 (ix2 r (col k hk l))

/-- The codes, the scales, the dequantised rows. -/
def cv (r : Fin 256) (d : Fin 7168) : EReal := Cert.Scale.code (grp x0 (d.val / 128) (by omega) r) ⟨d.val % 128, Nat.mod_lt _ (by decide)⟩
def sv (r : Fin 256) (k : Fin 56) : EReal := Cert.Scale.scale (Cert.Scale.gmax (grp x0 k.val k.isLt r))
def dv (r : Fin 256) (d : Fin 7168) : EReal := cv x0 r d * sv x0 r ⟨d.val / 128, by omega⟩

theorem XV_row (k : ℕ) (hk : k < 56) (r : Fin 256) : (fun l => XV arg1 harg1 x0 k hk (ix2 r l)) = grp x0 k hk r :=
  funext fun l => XV_apply arg1 harg1 x0 k hk r l

theorem div_col (k : ℕ) (hk : k < 56) (l : Fin 128) : (col k hk l).val / 128 = k := by show (128 * k + l.val) / 128 = k; omega
theorem mod_col (k : ℕ) (hk : k < 56) (l : Fin 128) : (⟨(col k hk l).val % 128, Nat.mod_lt _ (by decide)⟩ : Fin 128) = l :=
  Fin.ext (by show (128 * k + l.val) % 128 = l.val; omega)

theorem cv_col (k : ℕ) (hk : k < 56) (r : Fin 256) (l : Fin 128) : cv x0 r (col k hk l) = Cert.Scale.code (grp x0 k hk r) l := by
  unfold cv
  rw [mod_col]
  congr 1
  congr 1
  exact div_col k hk l
theorem dv_col (k : ℕ) (hk : k < 56) (r : Fin 256) (l : Fin 128) : dv x0 r (col k hk l) = Cert.Scale.code (grp x0 k hk r) l * sv x0 r ⟨k, hk⟩ := by
  unfold dv
  rw [cv_col]
  congr 3
  exact div_col k hk l

theorem C_apply (k : ℕ) (hk : k < 56) (r : Fin 256) (l : Fin 128) : CODES (XV arg1 harg1 x0 k hk) (ix2 r l) = cv x0 r (col k hk l) := by
  rw [CODES_apply, XV_row, cv_col]
theorem D_apply (k : ℕ) (hk : k < 56) (r : Fin 256) (l : Fin 128) : DEQ (XV arg1 harg1 x0 k hk) (ix2 r l) = dv x0 r (col k hk l) := by
  rw [DEQ_apply, XV_row, dv_col]; rfl
theorem S_apply (k : ℕ) (hk : k < 56) (r : Fin 256) : SCALE (AMAX (XV arg1 harg1 x0 k hk)) (ix2 r 0) = sv x0 r ⟨k, hk⟩ := by
  rw [SCALE_apply, AMAX_apply, XV_row]; rfl

/-! ## What the stores of the strips leave -/

theorem not_mem_rW (n : ℕ) (h : n < 56) (r : Fin 256) (d : Fin 7168) (hd : d.val < 128 * n) : ix2 r d ∉ (rW n h).set := by
  intro hm
  obtain ⟨x, hx⟩ := (rW n h).toLoadRect.exists_idx_of_mem hm
  have := congrArg (fun y => (y (1 : Fin 2)).val) hx
  have h2 : 128 * n + 1 * (x (1 : Fin 2)).val = d.val := this
  omega

theorem canon_hit {φ : EltTy} (n : ℕ) (h : n < 56) (w : Vec Ideal S256x128 φ) (L : List (View.Piece (Elt Ideal) S256x7168 φ)) (r : Fin 256) (l : Fin 128) :
    View.canon (⟨rW n h, w⟩ :: L) (ix2 r (col n h l)) = w (ix2 r l) := by
  rw [← embW]; exact View.canon_cons_emb (rW n h) w L (ix2 r l)
theorem canon_skip {φ : EltTy} (n : ℕ) (h : n < 56) (w : Vec Ideal S256x128 φ) (L : List (View.Piece (Elt Ideal) S256x7168 φ)) (r : Fin 256) (d : Fin 7168) (hd : d.val < 128 * n) :
    View.canon (⟨rW n h, w⟩ :: L) (ix2 r d) = View.canon L (ix2 r d) :=
  View.canon_cons_of_not_mem ⟨rW n h, w⟩ L (not_mem_rW n h r d hd)

theorem col_surj (n : ℕ) (h : n < 56) (d : Fin 7168) (h1 : 128 * n ≤ d.val) (h2 : d.val < 128 * (n + 1)) : ∃ l : Fin 128, d = col n h l :=
  ⟨⟨d.val - 128 * n, by omega⟩, Fin.ext (by show d.val = 128 * n + (d.val - 128 * n); omega)⟩

theorem canon_PC (r : Fin 256) (d : Fin 7168) : ∀ (n : ℕ) (h : n ≤ 56), d.val < 128 * n →
    View.canon (PC arg1 harg1 x0 n h) (ix2 r d) = cv x0 r d
  | 0, _, hd => absurd hd (by omega)
  | n + 1, h, hd => by
      by_cases h1 : 128 * n ≤ d.val
      · obtain ⟨l, rfl⟩ := col_surj n h d h1 hd
        exact (canon_hit n h _ _ r l).trans (C_apply _ _ _ n h r l)
      · exact (canon_skip n h _ _ r d (by omega)).trans <| canon_PC r d n _ (by omega)

theorem canon_PD (r : Fin 256) (d : Fin 7168) : ∀ (n : ℕ) (h : n ≤ 56), d.val < 128 * n →
    View.canon (PD arg1 harg1 x0 n h) (ix2 r d) = dv x0 r d
  | 0, _, hd => absurd hd (by omega)
  | n + 1, h, hd => by
      by_cases h1 : 128 * n ≤ d.val
      · obtain ⟨l, rfl⟩ := col_surj n h d h1 hd
        exact (canon_hit n h _ _ r l).trans (D_apply _ _ _ n h r l)
      · exact (canon_skip n h _ _ r d (by omega)).trans <| canon_PD r d n _ (by omega)

theorem SC_succ (n : ℕ) (h : n + 1 ≤ 56) (r : Fin 256) (k : Fin 56) :
    SC arg1 harg1 x0 (n + 1) h (ix2 r k) = if k.val = n then sv x0 r ⟨n, h⟩ else SC arg1 harg1 x0 n (Nat.le_of_succ_le h) (ix2 r k) := by
  have e : SC arg1 harg1 x0 (n + 1) h (ix2 r k) = Scalar.select (IntOp.cmpi .eq (BitVec.ofNat 32 k.val) (BitVec.ofNat 32 n)) (SCALE (AMAX (XV arg1 harg1 x0 n h)) (ix2 r 0)) (SC arg1 harg1 x0 n (Nat.le_of_succ_le h) (ix2 r k)) := by
    rw [SC]
    generalize SCALE (AMAX (XV arg1 harg1 x0 n h)) = s
    generalize SC arg1 harg1 x0 n (Nat.le_of_succ_le h) = q
    pointwise
  rw [e, S_apply]
  have hc : IntOp.cmpi .eq (BitVec.ofNat 32 k.val) (BitVec.ofNat 32 n) = BitVec.ofBool (decide (k.val = n)) := by
    show BitVec.ofBool _ = _
    congr 1
    rw [Bool.eq_iff_iff, decide_eq_true_iff, beq_iff_eq]
    refine ⟨fun h' => ?_, fun h' => by rw [h']⟩
    have := congrArg BitVec.toNat h'
    rwa [BitVec.toNat_ofNat, BitVec.toNat_ofNat, Nat.mod_eq_of_lt (by omega), Nat.mod_eq_of_lt (by omega)] at this
  rw [hc]
  by_cases hk : k.val = n
  · simp [Scalar.select, hk]
  · simp [Scalar.select, hk]

theorem SC_apply (r : Fin 256) (k : Fin 56) : ∀ (n : ℕ) (h : n ≤ 56), k.val < n → SC arg1 harg1 x0 n h (ix2 r k) = sv x0 r k
  | 0, _, hk => absurd hk (by omega)
  | n + 1, h, hk => by
      rw [SC_succ]
      by_cases h1 : k.val = n
      · subst h1; rw [if_pos rfl]
      · rw [if_neg h1]; exact SC_apply r k n _ (by omega)

/-! ## The heads -/

/-- The weights times their scales. -/
def wv (a : Fin 512) (d : Fin 7168) : EReal := x4 (ix2 a d) * x5 (ix2 ⟨a.val / 128, by omega⟩ d)

abbrev hrow (h : ℕ) (hh : h < 4) (e : Fin 128) : Fin 512 := ⟨128 * h + e.val, by omega⟩

theorem embH (h : ℕ) (hh : h < 4) (e : Fin 128) (d : Fin 7168) : (rH h hh).emb (ix2 e d) = ix2 (hrow h hh e) d := by
  funext a; match a with
  | ⟨0, _⟩ => exact Fin.ext (by show 128 * h + 1 * e.val = 128 * h + e.val; omega)
  | ⟨1, _⟩ => exact Fin.ext (by show 0 + 1 * d.val = d.val; omega)
theorem embR (h : ℕ) (hh : h < 4) (d : Fin 7168) : (rR h hh).emb (ix2 0 d) = ix2 ⟨h, hh⟩ d := by
  funext a; match a with
  | ⟨0, _⟩ => exact Fin.ext (by show h + 1 * 0 = h; omega)
  | ⟨1, _⟩ => exact Fin.ext (by show 0 + 1 * d.val = d.val; omega)

theorem WH_apply (h : ℕ) (hh : h < 4) (e : Fin 128) (d : Fin 7168) : WH arg5 harg5 arg6 harg6 x4 x5 h hh (ix2 e d) = wv x4 x5 (hrow h hh e) d := by
  unfold WH
  rw [View.readAt_eq_ld, harg5.read_unread, View.readAt_eq_ld, harg6.read_unread]
  have e1 : View.ld x4 (rH h hh) (ix2 e d) = x4 (ix2 (hrow h hh e) d) := by
    show x4 ((rH h hh).emb (ix2 e d)) = _
    rw [embH]
  have e2 : View.ld x5 (rR h hh) (ix2 0 d) = x5 (ix2 ⟨h, hh⟩ d) := by
    show x5 ((rR h hh).emb (ix2 0 d)) = _
    rw [embR]
  have e3 : (⟨(hrow h hh e).val / 128, by omega⟩ : Fin 4) = ⟨h, hh⟩ := Fin.ext (by show (128 * h + e.val) / 128 = h; omega)
  unfold wv
  rw [e3, ← e1, ← e2]
  generalize View.ld x4 (rH h hh) = p
  generalize View.ld x5 (rR h hh) = q
  pointwise

theorem canon_PW (a : Fin 512) (d : Fin 7168) : ∀ (n : ℕ) (h : n ≤ 4), a.val < 128 * n →
    View.canon (PW arg5 harg5 arg6 harg6 x4 x5 n h) (ix2 a d) = wv x4 x5 a d
  | 0, _, hd => absurd hd (by omega)
  | n + 1, h, hd => by
      by_cases h1 : 128 * n ≤ a.val
      · obtain ⟨e, rfl⟩ : ∃ e : Fin 128, a = hrow n h e := ⟨⟨a.val - 128 * n, by omega⟩, Fin.ext (by show a.val = 128 * n + (a.val - 128 * n); omega)⟩
        refine Eq.trans ?_ (WH_apply arg5 harg5 arg6 harg6 x4 x5 n h e d)
        rw [← embH]; exact View.canon_cons_emb (rH n h) _ _ (ix2 e d)
      · refine (View.canon_cons_of_not_mem ⟨rH n h, _⟩ _ ?_).trans <| canon_PW a d n _ (by omega)
        intro hm
        obtain ⟨x, hx⟩ := (rH n h).toLoadRect.exists_idx_of_mem hm
        have := congrArg (fun y => (y (0 : Fin 2)).val) hx
        have h2 : 128 * n + 1 * (x (0 : Fin 2)).val = a.val := this
        omega

theorem embWo (a : Fin 512) (d : Fin 7168) : rWo.emb (ix2 a d) = ix2 a d := by
  funext j; match j with
  | ⟨0, _⟩ => exact Fin.ext (by show 0 + 1 * a.val = a.val; omega)
  | ⟨1, _⟩ => exact Fin.ext (by show 0 + 1 * d.val = d.val; omega)
theorem embDy (r : Fin 256) (d : Fin 7168) : rDy.emb (ix2 r d) = ix2 r d := by
  funext j; match j with
  | ⟨0, _⟩ => exact Fin.ext (by show 0 + 1 * r.val = r.val; omega)
  | ⟨1, _⟩ => exact Fin.ext (by show 0 + 1 * d.val = d.val; omega)

theorem WA_apply (a : Fin 512) (d : Fin 7168) : WA arg5 harg5 arg6 harg6 arg13 x4 x5 (ix2 a d) = wv x4 x5 a d := by
  unfold WA
  rw [View.readCov_eq_canon']
  show View.canon _ (rWo.emb (ix2 a d)) = _
  rw [embWo]
  exact canon_PW _ _ _ _ _ _ a d 4 _ (by omega)
theorem WB_apply (a : Fin 512) (d : Fin 7168) : WB arg13 harg13 xs0 (ix2 a d) = xs0 (ix2 a d) := by
  unfold WB
  rw [View.readAt_eq_ld, harg13.read_unread]
  show xs0 (rWo.emb (ix2 a d)) = _
  rw [embWo]
theorem DYD_apply (r : Fin 256) (d : Fin 7168) : DYD arg1 harg1 arg14 x0 (ix2 r d) = dv x0 r d := by
  unfold DYD
  rw [View.readCov_eq_canon']
  show View.canon _ (rDy.emb (ix2 r d)) = _
  rw [embDy]
  exact canon_PD _ _ _ r d 56 _ (by omega)

/-! ## The products -/

variable (w : Vec Ideal S512x7168 .bf16)

/-- An entry of `y`, of the gradient, of its sums against `o`. -/
def yv (r : Fin 256) (d : Fin 7168) : EReal := ∑ a : Fin 512, x1 (ix2 r a) * w (ix2 a d)
def gv (a : Fin 512) (r : Fin 256) : EReal := ∑ d : Fin 7168, w (ix2 a d) * dv x0 r d
def dsv (h : Fin 4) (r : Fin 256) : EReal := ∑ e : Fin 128, gv x0 w (hrow h.val h.isLt e) r * x2 (ix2 (hrow h.val h.isLt e) r)

theorem pay691_apply (p : Vec Ideal S256x512 .bf16) (r : Fin 256) (d : Fin 7168) : k0_pay691 p w (ix2 r d) = ∑ a : Fin 512, p (ix2 r a) * w (ix2 a d) := by
  pointwise [k0_pay691]
theorem pay692_apply (q : Vec Ideal S256x7168 .bf16) (a : Fin 512) (r : Fin 256) : k0_pay692 w q (ix2 a r) = ∑ d : Fin 7168, w (ix2 a d) * q (ix2 r d) := by
  pointwise [k0_pay692]
theorem pay692_gv (a : Fin 512) (r : Fin 256) : k0_pay692 w (DYD arg1 harg1 arg14 x0) (ix2 a r) = gv x0 w a r := by
  refine (pay692_apply w _ a r).trans (Finset.sum_congr rfl fun d _ => ?_)
  rw [DYD_apply]

theorem pay694_apply (q : Vec Ideal S256x7168 .bf16) (o : Vec Ideal S128x256 .f32) (r : Fin 256) :
    k0_pay694 w q o (ix3 0 0 r) = ∑ e : Fin 128, k0_pay692 w q (ix2 (hrow 0 (by omega) e) r) * o (ix2 e r) := by
  unfold k0_pay694
  generalize k0_pay692 w q = g
  pointwise
  exact Finset.sum_congr rfl fun e _ => congrArg (fun a => g (ix2 a r) * o (ix2 e r)) (Fin.ext (by show e.val = 128 * 0 + e.val; omega))
theorem pay695_apply (q : Vec Ideal S256x7168 .bf16) (o : Vec Ideal S128x256 .f32) (r : Fin 256) :
    k0_pay695 w q o (ix3 0 0 r) = ∑ e : Fin 128, k0_pay692 w q (ix2 (hrow 1 (by omega) e) r) * o (ix2 e r) := by
  unfold k0_pay695
  generalize k0_pay692 w q = g
  pointwise
theorem pay696_apply (q : Vec Ideal S256x7168 .bf16) (o : Vec Ideal S128x256 .f32) (r : Fin 256) :
    k0_pay696 w q o (ix3 0 0 r) = ∑ e : Fin 128, k0_pay692 w q (ix2 (hrow 2 (by omega) e) r) * o (ix2 e r) := by
  unfold k0_pay696
  generalize k0_pay692 w q = g
  pointwise
theorem pay698_apply (q : Vec Ideal S256x7168 .bf16) (o : Vec Ideal S128x256 .f32) (r : Fin 256) :
    k0_pay698 (k0_pay697 w q o) (ix3 0 0 r) = ∑ e : Fin 128, k0_pay692 w q (ix2 (hrow 3 (by omega) e) r) * o (ix2 e r) := by
  unfold k0_pay698 k0_pay697
  generalize k0_pay692 w q = g
  pointwise

theorem pay1_apply (a b c d : Vec Ideal S1x1x256 .f32) (r : Fin 256) :
    k0_pay1 (k0_pay699 a b c d) (ix2 r 0) = a (ix3 0 0 r) ∧ k0_pay1 (k0_pay699 a b c d) (ix2 r 1) = b (ix3 0 0 r)
    ∧ k0_pay1 (k0_pay699 a b c d) (ix2 r 2) = c (ix3 0 0 r) ∧ k0_pay1 (k0_pay699 a b c d) (ix2 r 3) = d (ix3 0 0 r) := by
  unfold k0_pay1 k0_pay699
  refine ⟨?_, ?_, ?_, ?_⟩ <;> pointwise

theorem canon_PY (r : Fin 256) (d : Fin 7168) : View.canon (PY arg2 harg2 x1 w) (ix2 r d) = yv x1 w r d := by
  unfold PY
  rw [View.canon_cons_unit_lit _ _ _ (by decide), pay691_apply]
  refine Finset.sum_congr rfl fun a _ => ?_
  rw [View.readAt_eq_ld, harg2.read_unread, View.ld_unit_zero (by decide)]

theorem canon_PT (a : Fin 512) (r : Fin 256) : View.canon (PT arg1 harg1 arg14 x0 w) (ix2 a r) = gv x0 w a r := by
  unfold PT
  rw [View.canon_cons_unit_lit _ _ _ (by decide)]
  exact pay692_gv arg1 harg1 arg14 x0 w a r

theorem canon_PN (r : Fin 256) (h : Fin 4) : View.canon (PN arg4 harg4 x3) (ix2 r h) = x3 (ix3 h 0 r) := by
  unfold PN
  rw [View.canon_cons_unit_lit _ _ _ (by decide)]
  simp only [View.readAt_eq_ld, harg4.read_unread]
  obtain ⟨h0, h1, h2, h3⟩ := pay1_apply
    (View.ld x3 (Rect.unit (s := S4x1x256) ![0, 0, 0] S1x1x256.size inb_S4x1x256_S1x1x256_0_0_0))
    (View.ld x3 (Rect.unit (s := S4x1x256) ![1, 0, 0] S1x1x256.size inb_S4x1x256_S1x1x256_1_0_0))
    (View.ld x3 (Rect.unit (s := S4x1x256) ![2, 0, 0] S1x1x256.size inb_S4x1x256_S1x1x256_2_0_0))
    (View.ld x3 (Rect.unit (s := S4x1x256) ![3, 0, 0] S1x1x256.size inb_S4x1x256_S1x1x256_3_0_0)) r
  have em : ∀ (k : ℕ) (hk : k < 4) (inb), x3 ((Rect.unit (s := S4x1x256) ![k, 0, 0] S1x1x256.size inb).emb (ix3 0 0 r)) = x3 (ix3 ⟨k, hk⟩ 0 r) := fun k hk inb => by
    congr 1
    funext j; match j with
    | ⟨0, _⟩ => exact Fin.ext (by show k + 1 * 0 = k; omega)
    | ⟨1, _⟩ => rfl
    | ⟨2, _⟩ => exact Fin.ext (by show 0 + 1 * r.val = r.val; omega)
  match h with
  | ⟨0, hh⟩ => exact h0.trans (em 0 hh _)
  | ⟨1, hh⟩ => exact h1.trans (em 1 hh _)
  | ⟨2, hh⟩ => exact h2.trans (em 2 hh _)
  | ⟨3, hh⟩ => exact h3.trans (em 3 hh _)

/-- A head's rows of `o`. -/
theorem ld_o (k : ℕ) (hk : k < 4) (inb) (e : Fin 128) (r : Fin 256) :
    View.ld x2 (Rect.unit (s := S512x256) ![128 * k, 0] S128x256.size inb) (ix2 e r) = x2 (ix2 (hrow k hk e) r) := by
  show x2 ((Rect.unit (s := S512x256) ![128 * k, 0] S128x256.size inb).emb (ix2 e r)) = _
  congr 1
  funext j; match j with
  | ⟨0, _⟩ => exact Fin.ext (by show 128 * k + 1 * e.val = 128 * k + e.val; omega)
  | ⟨1, _⟩ => exact Fin.ext (by show 0 + 1 * r.val = r.val; omega)

/-- Head `k` as a rectangle of the sums. -/
theorem emb_s (k : ℕ) (hk : k < 4) (inb) (r : Fin 256) :
    (Rect.unit (s := S4x1x256) ![k, 0, 0] S1x1x256.size inb).emb (ix3 0 0 r) = ix3 (⟨k, hk⟩ : Fin 4) 0 r := by
  funext j; match j with
  | ⟨0, _⟩ => exact Fin.ext (by show k + 1 * 0 = k; omega)
  | ⟨1, _⟩ => rfl
  | ⟨2, _⟩ => exact Fin.ext (by show 0 + 1 * r.val = r.val; omega)

theorem s_skip (k : ℕ) (inb) (v : Vec Ideal S1x1x256 .f32) (L : List (View.Piece (Elt Ideal) S4x1x256 .f32)) (h : Fin 4) (hne : h.val ≠ k) (r : Fin 256) :
    View.canon (⟨Rect.unit (s := S4x1x256) ![k, 0, 0] S1x1x256.size inb, v⟩ :: L) (ix3 h 0 r) = View.canon L (ix3 h 0 r) := by
  refine View.canon_cons_of_not_mem ⟨Rect.unit (s := S4x1x256) ![k, 0, 0] S1x1x256.size inb, v⟩ L fun hm => ?_
  obtain ⟨x, hx⟩ := (Rect.unit (s := S4x1x256) ![k, 0, 0] S1x1x256.size inb).toLoadRect.exists_idx_of_mem hm
  have := congrArg (fun y => (y (0 : Fin 3)).val) hx
  have h2 : k + 1 * (x (0 : Fin 3)).val = h.val := this
  have h3 : (x (0 : Fin 3)).val < 1 := (x (0 : Fin 3)).isLt
  omega

theorem s_hit (k : ℕ) (hk : k < 4) (inb) (v : Vec Ideal S1x1x256 .f32) (L : List (View.Piece (Elt Ideal) S4x1x256 .f32)) (r : Fin 256) :
    View.canon (⟨Rect.unit (s := S4x1x256) ![k, 0, 0] S1x1x256.size inb, v⟩ :: L) (ix3 ⟨k, hk⟩ 0 r) = v (ix3 0 0 r) := by
  rw [← emb_s k hk inb]; exact View.canon_cons_emb (Rect.unit (s := S4x1x256) ![k, 0, 0] S1x1x256.size inb) v L (ix3 0 0 r)

theorem canon_PS (h : Fin 4) (r : Fin 256) : View.canon (PS arg1 harg1 arg3 harg3 arg14 x0 x2 w) (ix3 h 0 r) = dsv x0 x2 w h r := by
  unfold PS
  have row : ∀ (k : ℕ) (hk : k < 4) (o : Vec Ideal S128x256 .f32), (∀ e, o (ix2 e r) = x2 (ix2 (hrow k hk e) r)) →
      ∑ e : Fin 128, k0_pay692 w (DYD arg1 harg1 arg14 x0) (ix2 (hrow k hk e) r) * o (ix2 e r) = dsv x0 x2 w ⟨k, hk⟩ r := fun k hk o ho =>
    Finset.sum_congr rfl fun e _ => congrArg₂ _ (pay692_gv arg1 harg1 arg14 x0 w _ r) (ho e)
  match h with
  | ⟨3, hh⟩ =>
    refine (s_hit 3 hh _ _ _ r).trans ((pay698_apply w _ _ r).trans (row 3 hh _ fun e => ?_))
    rw [View.readAt_eq_ld, harg3.read_unread]; exact ld_o x2 3 hh _ e r
  | ⟨2, hh⟩ =>
    refine (s_skip 3 _ _ _ ⟨2, hh⟩ (by simp) r).trans ((s_hit 2 hh _ _ _ r).trans ((pay696_apply w _ _ r).trans (row 2 hh _ fun e => ?_)))
    rw [View.readAt_eq_ld, harg3.read_unread]; exact ld_o x2 2 hh _ e r
  | ⟨1, hh⟩ =>
    refine (s_skip 3 _ _ _ ⟨1, hh⟩ (by simp) r).trans ((s_skip 2 _ _ _ ⟨1, hh⟩ (by simp) r).trans ((s_hit 1 hh _ _ _ r).trans ((pay695_apply w _ _ r).trans (row 1 hh _ fun e => ?_))))
    rw [View.readAt_eq_ld, harg3.read_unread]; exact ld_o x2 1 hh _ e r
  | ⟨0, hh⟩ =>
    refine (s_skip 3 _ _ _ ⟨0, hh⟩ (by simp) r).trans ((s_skip 2 _ _ _ ⟨0, hh⟩ (by simp) r).trans ((s_skip 1 _ _ _ ⟨0, hh⟩ (by simp) r).trans ((s_hit 0 hh _ _ _ r).trans ((pay694_apply w _ _ r).trans (row 0 hh _ fun e => ?_)))))
    rw [View.readAt_eq_ld, harg3.read_unread]; exact ld_o x2 0 hh _ e r

end

/-! ## The point's outputs -/

section

variable (c : Dev nD) (i : grid0.Coords) (arg1 : Memref sig .tc .vmem S256x7168 .bf16) (harg1 : arg1.IsWhole) (arg2 : Memref sig .tc .vmem S256x512 .bf16) (harg2 : arg2.IsWhole) (arg3 : Memref sig .tc .vmem S512x256 .f32) (harg3 : arg3.IsWhole) (arg4 : Memref sig .tc .vmem S4x1x256 .f32) (harg4 : arg4.IsWhole) (arg5 : Memref sig .tc .vmem S512x7168 .fp8e4m3) (harg5 : arg5.IsWhole) (arg6 : Memref sig .tc .vmem S4x7168 .f32) (harg6 : arg6.IsWhole) (arg7 : Memref sig .tc .vmem S256x7168 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S512x256 .bf16) (harg10 : arg10.IsWhole) (arg11 : Memref sig .tc .vmem S4x1x256 .f32) (harg11 : arg11.IsWhole) (arg12 : Memref sig .tc .vmem S256x4 .f32) (harg12 : arg12.IsWhole) (arg13 : Memref sig .tc .vmem S512x7168 .bf16) (harg13 : arg13.IsWhole) (arg14 : Memref sig .tc .vmem S256x7168 .bf16) (harg14 : arg14.IsWhole)
    (x0 : Vec Ideal S256x7168 .bf16) (x1 : Vec Ideal S256x512 .bf16) (x2 : Vec Ideal S512x256 .f32) (x3 : Vec Ideal S4x1x256 .f32) (x4 : Vec Ideal S512x7168 .fp8e4m3) (x5 : Vec Ideal S4x7168 .f32) (xs0 : Vec Ideal S512x7168 .bf16)

theorem out0_A_6_apply (hc0 : cond0_0 i) (r : Fin 256) (d : Fin 7168) :
    out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 r d) = yv x1 (WA arg5 harg5 arg6 harg6 arg13 x4 x5) r d := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), y_A]
  exact canon_PY _ _ _ _ r d

theorem out0_A_7_apply (hc0 : cond0_0 i) (r : Fin 256) (d : Fin 7168) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 r d) = cv x0 r d := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), codes_A]
  exact canon_PC _ _ _ r d 56 _ (by omega)

theorem out0_A_8_apply (hc0 : cond0_0 i) (r : Fin 256) (k : Fin 56) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 r k) = sv x0 r k := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), scales_A]
  rw [View.canon_cons_unit_lit _ _ _ (by decide)]; exact SC_apply _ _ _ r k 56 _ k.isLt

theorem out0_A_9_apply (hc0 : cond0_0 i) (a : Fin 512) (r : Fin 256) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 a r) = gv x0 (WA arg5 harg5 arg6 harg6 arg13 x4 x5) a r := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), grad_A]
  exact canon_PT _ _ _ _ _ a r

theorem out0_A_10_apply (hc0 : cond0_0 i) (h : Fin 4) (r : Fin 256) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix3 h 0 r) = dsv x0 x2 (WA arg5 harg5 arg6 harg6 arg13 x4 x5) h r := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), sums_A]
  exact canon_PS _ _ _ _ _ _ _ _ h r

theorem out0_A_11_apply (hc0 : cond0_0 i) (r : Fin 256) (h : Fin 4) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 r h) = x3 (ix3 h 0 r) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), stats_A]
  exact canon_PN _ _ _ r h

theorem sout0_A_0_apply (hc0 : cond0_0 i) (a : Fin 512) (d : Fin 7168) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 (ix2 a d) = wv x4 x5 a d := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5), weights_A]
  exact canon_PW _ _ _ _ _ _ a d 4 _ (by omega)

theorem out0_B_6_apply (hc0 : ¬cond0_0 i) (r : Fin 256) (d : Fin 7168) :
    out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix2 r d) = yv x1 (WB arg13 harg13 xs0) r d := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), y_B]
  exact canon_PY _ _ _ _ r d

theorem out0_B_7_apply (hc0 : ¬cond0_0 i) (r : Fin 256) (d : Fin 7168) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix2 r d) = cv x0 r d := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), codes_B]
  exact canon_PC _ _ _ r d 56 _ (by omega)

theorem out0_B_8_apply (hc0 : ¬cond0_0 i) (r : Fin 256) (k : Fin 56) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix2 r k) = sv x0 r k := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), scales_B]
  rw [View.canon_cons_unit_lit _ _ _ (by decide)]; exact SC_apply _ _ _ r k 56 _ k.isLt

theorem out0_B_9_apply (hc0 : ¬cond0_0 i) (a : Fin 512) (r : Fin 256) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix2 a r) = gv x0 (WB arg13 harg13 xs0) a r := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), grad_B]
  exact canon_PT _ _ _ _ _ a r

theorem out0_B_10_apply (hc0 : ¬cond0_0 i) (h : Fin 4) (r : Fin 256) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix3 h 0 r) = dsv x0 x2 (WB arg13 harg13 xs0) h r := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), sums_B]
  exact canon_PS _ _ _ _ _ _ _ _ h r

theorem out0_B_11_apply (hc0 : ¬cond0_0 i) (r : Fin 256) (h : Fin 4) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 (ix2 r h) = x3 (ix3 h 0 r) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0), stats_B]
  exact canon_PN _ _ _ r h

end

end Cert.MidIdeal.Block

end
-- ==== Proof.MidValue.lean ====
/-
  What `k4_mid` leaves in its results, as functions of the arguments' entries: each point's blocks are rows (or columns) of the
  arrays, and every point after the first finds the dequantised weights the first one left.
-/
module

public import proofs.«01_k».proof.Proof.MidRead

@[expose] public section

set_option maxRecDepth 65536

noncomputable section

namespace Cert.MidIdeal.Block

open Idealize.ShloMosaic Idealize.ShloMosaic.TcCoe Idealize.ShloMosaic.Tactic Idealize.SL.Sem Cert.MidIdeal.Gen

/-! ## The results as functions of whole arrays -/

section

variable (a0 : Vec Ideal S8192x7168 .bf16) (a1 : Vec Ideal S8192x512 .bf16) (a2 : Vec Ideal S512x8192 .f32) (a4 : Vec Ideal S512x7168 .fp8e4m3) (a5 : Vec Ideal S4x7168 .f32)

/-- The group of 128 entries that column strip `k` cuts from row `s`. -/
abbrev GRP (k : ℕ) (hk : k < 56) (s : Fin 8192) : Fin 128 → EReal := fun l => a0 (ix2 s (col k hk l))

/-- The codes, the scales, the dequantised rows. -/
def CV (s : Fin 8192) (d : Fin 7168) : EReal := Cert.Scale.code (GRP a0 (d.val / 128) (by omega) s) ⟨d.val % 128, Nat.mod_lt _ (by decide)⟩
def SV (s : Fin 8192) (k : Fin 56) : EReal := Cert.Scale.scale (Cert.Scale.gmax (GRP a0 k.val k.isLt s))
def DV (s : Fin 8192) (d : Fin 7168) : EReal := CV a0 s d * SV a0 s ⟨d.val / 128, by omega⟩

/-- The product with the weights, the gradient of its left factor, that gradient's sums against `ot`. -/
def YV (s : Fin 8192) (d : Fin 7168) : EReal := ∑ a : Fin 512, a1 (ix2 s a) * wv a4 a5 a d
def GV (a : Fin 512) (s : Fin 8192) : EReal := ∑ d : Fin 7168, wv a4 a5 a d * DV a0 s d
def DSV (h : Fin 4) (s : Fin 8192) : EReal := ∑ e : Fin 128, GV a0 a4 a5 (hrow h.val h.isLt e) s * a2 (ix2 (hrow h.val h.isLt e) s)

end

variable (m : (ℓ : Loc nD τ sig) → Buf (Elt Ideal) ℓ) (c : Dev nD)

/-- The arguments, as arrays of extended reals. -/
abbrev A0 : Vec Ideal S8192x7168 .bf16 := m ((c.tc : Thread nD τ).loc main_arg0)
abbrev A1 : Vec Ideal S8192x512 .bf16 := m ((c.tc : Thread nD τ).loc main_arg1)
abbrev A2 : Vec Ideal S512x8192 .f32 := m ((c.tc : Thread nD τ).loc main_arg2)
abbrev A3 : Vec Ideal S4x1x8192 .f32 := m ((c.tc : Thread nD τ).loc main_arg3)
abbrev A4 : Vec Ideal S512x7168 .fp8e4m3 := m ((c.tc : Thread nD τ).loc main_arg4)
abbrev A5 : Vec Ideal S4x7168 .f32 := m ((c.tc : Thread nD τ).loc main_arg5)

/-- Row `r` of point `t`'s blocks. -/
abbrev row (t : Fin cfg0.N) (r : Fin 256) : Fin 8192 := ⟨256 * t.val + r.val, by have := lt_of_lt_of_eq t.isLt N_0; omega⟩

/-! ## Where the windows' blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 3) = 0 ∧ win0_3.index t (1 : Fin 3) = 0 ∧ win0_3.index t (2 : Fin 3) = t.val :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 3) = 0 ∧ win0_10.index t (1 : Fin 3) = 0 ∧ win0_10.index t (2 : Fin 3) = t.val :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

theorem emb0 (t : Fin cfg0.N) (u : Fin 256) (v : Fin 7168) :
    ((cfg0.win 0).blk t).view.emb (ix2 u v) = ix2 (row t u) v := by
  refine funext fun a => Fin.ext ?_
  obtain ⟨h0, h1⟩ := idx0 t
  match a with
  | ⟨0, _⟩ => show win0_0.index t (0 : Fin 2) * 256 + 1 * u.val = 256 * t.val + u.val; rw [h0]; omega
  | ⟨1, _⟩ => show win0_0.index t (1 : Fin 2) * 7168 + 1 * v.val = v.val; rw [h1]; omega

theorem emb1 (t : Fin cfg0.N) (u : Fin 256) (v : Fin 512) :
    ((cfg0.win 1).blk t).view.emb (ix2 u v) = ix2 (row t u) v := by
  refine funext fun a => Fin.ext ?_
  obtain ⟨h0, h1⟩ := idx1 t
  match a with
  | ⟨0, _⟩ => show win0_1.index t (0 : Fin 2) * 256 + 1 * u.val = 256 * t.val + u.val; rw [h0]; omega
  | ⟨1, _⟩ => show win0_1.index t (1 : Fin 2) * 512 + 1 * v.val = v.val; rw [h1]; omega

theorem emb2 (t : Fin cfg0.N) (u : Fin 512) (v : Fin 256) :
    ((cfg0.win 2).blk t).view.emb (ix2 u v) = ix2 u (row t v) := by
  refine funext fun a => Fin.ext ?_
  obtain ⟨h0, h1⟩ := idx2 t
  match a with
  | ⟨0, _⟩ => show win0_2.index t (0 : Fin 2) * 512 + 1 * u.val = u.val; rw [h0]; omega
  | ⟨1, _⟩ => show win0_2.index t (1 : Fin 2) * 256 + 1 * v.val = 256 * t.val + v.val; rw [h1]; omega

theorem emb3 (t : Fin cfg0.N) (u : Fin 4) (v : Fin 1) (x : Fin 256) :
    ((cfg0.win 3).blk t).view.emb (ix3 u v x) = ix3 u v (row t x) := by
  refine funext fun a => Fin.ext ?_
  obtain ⟨h0, h1, h2⟩ := idx3 t
  match a with
  | ⟨0, _⟩ => show win0_3.index t (0 : Fin 3) * 4 + 1 * u.val = u.val; rw [h0]; omega
  | ⟨1, _⟩ => show win0_3.index t (1 : Fin 3) * 1 + 1 * v.val = v.val; rw [h1]; omega
  | ⟨2, _⟩ => show win0_3.index t (2 : Fin 3) * 256 + 1 * x.val = 256 * t.val + x.val; rw [h2]; omega

theorem emb4 (t : Fin cfg0.N) (u : Fin 512) (v : Fin 7168) :
    ((cfg0.win 4).blk t).view.emb (ix2 u v) = ix2 u v := by
  refine funext fun a => Fin.ext ?_
  obtain ⟨h0, h1⟩ := idx4 t
  match a with
  | ⟨0, _⟩ => show win0_4.index t (0 : Fin 2) * 512 + 1 * u.val = u.val; rw [h0]; omega
  | ⟨1, _⟩ => show win0_4.index t (1 : Fin 2) * 7168 + 1 * v.val = v.val; rw [h1]; omega

theorem emb5 (t : Fin cfg0.N) (u : Fin 4) (v : Fin 7168) :
    ((cfg0.win 5).blk t).view.emb (ix2 u v) = ix2 u v := by
  refine funext fun a => Fin.ext ?_
  obtain ⟨h0, h1⟩ := idx5 t
  match a with
  | ⟨0, _⟩ => show win0_5.index t (0 : Fin 2) * 4 + 1 * u.val = u.val; rw [h0]; omega
  | ⟨1, _⟩ => show win0_5.index t (1 : Fin 2) * 7168 + 1 * v.val = v.val; rw [h1]; omega

theorem emb6 (t : Fin cfg0.N) (u : Fin 256) (v : Fin 7168) :
    ((cfg0.win 6).blk t).view.emb (ix2 u v) = ix2 (row t u) v := by
  refine funext fun a => Fin.ext ?_
  obtain ⟨h0, h1⟩ := idx6 t
  match a with
  | ⟨0, _⟩ => show win0_6.index t (0 : Fin 2) * 256 + 1 * u.val = 256 * t.val + u.val; rw [h0]; omega
  | ⟨1, _⟩ => show win0_6.index t (1 : Fin 2) * 7168 + 1 * v.val = v.val; rw [h1]; omega

theorem emb7 (t : Fin cfg0.N) (u : Fin 256) (v : Fin 7168) :
    ((cfg0.win 7).blk t).view.emb (ix2 u v) = ix2 (row t u) v := by
  refine funext fun a => Fin.ext ?_
  obtain ⟨h0, h1⟩ := idx7 t
  match a with
  | ⟨0, _⟩ => show win0_7.index t (0 : Fin 2) * 256 + 1 * u.val = 256 * t.val + u.val; rw [h0]; omega
  | ⟨1, _⟩ => show win0_7.index t (1 : Fin 2) * 7168 + 1 * v.val = v.val; rw [h1]; omega

theorem emb8 (t : Fin cfg0.N) (u : Fin 256) (v : Fin 56) :
    ((cfg0.win 8).blk t).view.emb (ix2 u v) = ix2 (row t u) v := by
  refine funext fun a => Fin.ext ?_
  obtain ⟨h0, h1⟩ := idx8 t
  match a with
  | ⟨0, _⟩ => show win0_8.index t (0 : Fin 2) * 256 + 1 * u.val = 256 * t.val + u.val; rw [h0]; omega
  | ⟨1, _⟩ => show win0_8.index t (1 : Fin 2) * 56 + 1 * v.val = v.val; rw [h1]; omega

theorem emb9 (t : Fin cfg0.N) (u : Fin 512) (v : Fin 256) :
    ((cfg0.win 9).blk t).view.emb (ix2 u v) = ix2 u (row t v) := by
  refine funext fun a => Fin.ext ?_
  obtain ⟨h0, h1⟩ := idx9 t
  match a with
  | ⟨0, _⟩ => show win0_9.index t (0 : Fin 2) * 512 + 1 * u.val = u.val; rw [h0]; omega
  | ⟨1, _⟩ => show win0_9.index t (1 : Fin 2) * 256 + 1 * v.val = 256 * t.val + v.val; rw [h1]; omega

theorem emb10 (t : Fin cfg0.N) (u : Fin 4) (v : Fin 1) (x : Fin 256) :
    ((cfg0.win 10).blk t).view.emb (ix3 u v x) = ix3 u v (row t x) := by
  refine funext fun a => Fin.ext ?_
  obtain ⟨h0, h1, h2⟩ := idx10 t
  match a with
  | ⟨0, _⟩ => show win0_10.index t (0 : Fin 3) * 4 + 1 * u.val = u.val; rw [h0]; omega
  | ⟨1, _⟩ => show win0_10.index t (1 : Fin 3) * 1 + 1 * v.val = v.val; rw [h1]; omega
  | ⟨2, _⟩ => show win0_10.index t (2 : Fin 3) * 256 + 1 * x.val = 256 * t.val + x.val; rw [h2]; omega

theorem emb11 (t : Fin cfg0.N) (u : Fin 256) (v : Fin 4) :
    ((cfg0.win 11).blk t).view.emb (ix2 u v) = ix2 (row t u) v := by
  refine funext fun a => Fin.ext ?_
  obtain ⟨h0, h1⟩ := idx11 t
  match a with
  | ⟨0, _⟩ => show win0_11.index t (0 : Fin 2) * 256 + 1 * u.val = 256 * t.val + u.val; rw [h0]; omega
  | ⟨1, _⟩ => show win0_11.index t (1 : Fin 2) * 4 + 1 * v.val = v.val; rw [h1]; omega

/-! ## The blocks read the arguments -/

theorem iblk0 (t : Fin cfg0.N) (u : Fin 256) (v : Fin 7168) : iblk m c 0 t (ix2 u v) = A0 m c (ix2 (row t u) v) := by
  show V m c main_arg0 (((cfg0.win 0).blk t).view.emb (ix2 u v)) = _
  rw [emb0]
theorem iblk1 (t : Fin cfg0.N) (u : Fin 256) (v : Fin 512) : iblk m c 1 t (ix2 u v) = A1 m c (ix2 (row t u) v) := by
  show V m c main_arg1 (((cfg0.win 1).blk t).view.emb (ix2 u v)) = _
  rw [emb1]
theorem iblk2 (t : Fin cfg0.N) (u : Fin 512) (v : Fin 256) : iblk m c 2 t (ix2 u v) = A2 m c (ix2 u (row t v)) := by
  show V m c main_arg2 (((cfg0.win 2).blk t).view.emb (ix2 u v)) = _
  rw [emb2]
theorem iblk3 (t : Fin cfg0.N) (u : Fin 4) (v : Fin 1) (x : Fin 256) : iblk m c 3 t (ix3 u v x) = A3 m c (ix3 u v (row t x)) := by
  show V m c main_arg3 (((cfg0.win 3).blk t).view.emb (ix3 u v x)) = _
  rw [emb3]
theorem iblk4 (t : Fin cfg0.N) (u : Fin 512) (v : Fin 7168) : iblk m c 4 t (ix2 u v) = A4 m c (ix2 u v) := by
  show V m c main_arg4 (((cfg0.win 4).blk t).view.emb (ix2 u v)) = _
  rw [emb4]
theorem iblk5 (t : Fin cfg0.N) (u : Fin 4) (v : Fin 7168) : iblk m c 5 t (ix2 u v) = A5 m c (ix2 u v) := by
  show V m c main_arg5 (((cfg0.win 5).blk t).view.emb (ix2 u v)) = _
  rw [emb5]

theorem grp_iblk (t : Fin cfg0.N) (k : ℕ) (hk : k < 56) (r : Fin 256) : grp (iblk m c 0 t) k hk r = GRP (A0 m c) k hk (row t r) :=
  funext fun l => iblk0 m c t r (col k hk l)
theorem cv_iblk (t : Fin cfg0.N) (r : Fin 256) (d : Fin 7168) : cv (iblk m c 0 t) r d = CV (A0 m c) (row t r) d := by
  unfold cv CV; rw [grp_iblk]
theorem sv_iblk (t : Fin cfg0.N) (r : Fin 256) (k : Fin 56) : sv (iblk m c 0 t) r k = SV (A0 m c) (row t r) k := by
  unfold sv SV; rw [grp_iblk]
theorem dv_iblk (t : Fin cfg0.N) (r : Fin 256) (d : Fin 7168) : dv (iblk m c 0 t) r d = DV (A0 m c) (row t r) d := by
  unfold dv DV; rw [cv_iblk, sv_iblk]
theorem wv_iblk (t : Fin cfg0.N) (a : Fin 512) (d : Fin 7168) : wv (iblk m c 4 t) (iblk m c 5 t) a d = wv (A4 m c) (A5 m c) a d := by
  unfold wv; rw [iblk4, iblk5]

/-- With the dequantised weights in the scratch, a point's blocks are rows or columns of the closed forms. -/
theorem yv_iblk (w : Vec Ideal S512x7168 .bf16) (hw : ∀ a d, w (ix2 a d) = wv (A4 m c) (A5 m c) a d) (t : Fin cfg0.N) (r : Fin 256) (d : Fin 7168) :
    yv (iblk m c 1 t) w r d = YV (A1 m c) (A4 m c) (A5 m c) (row t r) d := by
  unfold yv YV
  refine Finset.sum_congr rfl fun a _ => ?_
  rw [iblk1, hw]
theorem gv_iblk (w : Vec Ideal S512x7168 .bf16) (hw : ∀ a d, w (ix2 a d) = wv (A4 m c) (A5 m c) a d) (t : Fin cfg0.N) (a : Fin 512) (r : Fin 256) :
    gv (iblk m c 0 t) w a r = GV (A0 m c) (A4 m c) (A5 m c) a (row t r) := by
  unfold gv GV
  refine Finset.sum_congr rfl fun d _ => ?_
  rw [dv_iblk, hw]
theorem dsv_iblk (w : Vec Ideal S512x7168 .bf16) (hw : ∀ a d, w (ix2 a d) = wv (A4 m c) (A5 m c) a d) (t : Fin cfg0.N) (h : Fin 4) (r : Fin 256) :
    dsv (iblk m c 0 t) (iblk m c 2 t) w h r = DSV (A0 m c) (A2 m c) (A4 m c) (A5 m c) h (row t r) := by
  unfold dsv DSV
  refine Finset.sum_congr rfl fun e _ => ?_
  rw [gv_iblk m c w hw, iblk2]

/-! ## The points -/

/-- Every point leaves the dequantised weights in the scratch: the first writes them, the others find them. -/
theorem outs_w (a : Fin 512) (d : Fin 7168) : ∀ (n : ℕ) (hn : n < cfg0.N),
    (outsAt0 m c n hn).2.2.2.2.2.2 (ix2 a d) = wv (A4 m c) (A5 m c) a d
  | 0, hn => by
      have e := outsAt0_A m c ⟨0, hn⟩ rfl
      change outsAt0 m c 0 hn = _ at e
      rw [e]; dsimp only
      rw [sout0_A_0_apply]; exact wv_iblk m c ⟨0, hn⟩ a d
  | n + 1, hn => by
      have hN := lt_of_lt_of_eq hn N_0
      have e := outsAt0_B m c ⟨n + 1, hn⟩ (by show ¬(n + 1) % 32 = 0; omega)
      change outsAt0 m c (n + 1) hn = _ at e
      rw [e]; dsimp only
      unfold sout0_B_0
      exact outs_w a d n (by omega)

theorem outs_y (t : Fin cfg0.N) (r : Fin 256) (d : Fin 7168) : (outsAt0 m c t.val t.isLt).1 (ix2 r d) = YV (A1 m c) (A4 m c) (A5 m c) (row t r) d := by
  have hN := lt_of_lt_of_eq t.isLt N_0
  by_cases h0 : t.val % 32 = 0
  · rw [outsAt0_A m c t h0]; dsimp only; rw [out0_A_6_apply]
    refine yv_iblk m c _ (fun a d => ?_) t r d
    rw [WA_apply]; exact wv_iblk m c t a d
  · rw [outsAt0_B m c t h0]; dsimp only; rw [out0_B_6_apply]
    refine yv_iblk m c _ (fun a d => ?_) t r d
    rw [WB_apply]; exact outs_w m c a d (t.val - 1) (by omega)
theorem outs_codes (t : Fin cfg0.N) (r : Fin 256) (d : Fin 7168) : (outsAt0 m c t.val t.isLt).2.1 (ix2 r d) = CV (A0 m c) (row t r) d := by
  have hN := lt_of_lt_of_eq t.isLt N_0
  by_cases h0 : t.val % 32 = 0
  · rw [outsAt0_A m c t h0]; dsimp only; rw [out0_A_7_apply]; exact cv_iblk m c t r d
  · rw [outsAt0_B m c t h0]; dsimp only; rw [out0_B_7_apply]; exact cv_iblk m c t r d
theorem outs_scales (t : Fin cfg0.N) (r : Fin 256) (k : Fin 56) : (outsAt0 m c t.val t.isLt).2.2.1 (ix2 r k) = SV (A0 m c) (row t r) k := by
  have hN := lt_of_lt_of_eq t.isLt N_0
  by_cases h0 : t.val % 32 = 0
  · rw [outsAt0_A m c t h0]; dsimp only; rw [out0_A_8_apply]; exact sv_iblk m c t r k
  · rw [outsAt0_B m c t h0]; dsimp only; rw [out0_B_8_apply]; exact sv_iblk m c t r k
theorem outs_grad (t : Fin cfg0.N) (a : Fin 512) (r : Fin 256) : (outsAt0 m c t.val t.isLt).2.2.2.1 (ix2 a r) = GV (A0 m c) (A4 m c) (A5 m c) a (row t r) := by
  have hN := lt_of_lt_of_eq t.isLt N_0
  by_cases h0 : t.val % 32 = 0
  · rw [outsAt0_A m c t h0]; dsimp only; rw [out0_A_9_apply]
    refine gv_iblk m c _ (fun a d => ?_) t a r
    rw [WA_apply]; exact wv_iblk m c t a d
  · rw [outsAt0_B m c t h0]; dsimp only; rw [out0_B_9_apply]
    refine gv_iblk m c _ (fun a d => ?_) t a r
    rw [WB_apply]; exact outs_w m c a d (t.val - 1) (by omega)
theorem outs_sums (t : Fin cfg0.N) (h : Fin 4) (r : Fin 256) : (outsAt0 m c t.val t.isLt).2.2.2.2.1 (ix3 h 0 r) = DSV (A0 m c) (A2 m c) (A4 m c) (A5 m c) h (row t r) := by
  have hN := lt_of_lt_of_eq t.isLt N_0
  by_cases h0 : t.val % 32 = 0
  · rw [outsAt0_A m c t h0]; dsimp only; rw [out0_A_10_apply]
    refine dsv_iblk m c _ (fun a d => ?_) t h r
    rw [WA_apply]; exact wv_iblk m c t a d
  · rw [outsAt0_B m c t h0]; dsimp only; rw [out0_B_10_apply]
    refine dsv_iblk m c _ (fun a d => ?_) t h r
    rw [WB_apply]; exact outs_w m c a d (t.val - 1) (by omega)
theorem outs_stats (t : Fin cfg0.N) (r : Fin 256) (h : Fin 4) : (outsAt0 m c t.val t.isLt).2.2.2.2.2.1 (ix2 r h) = A3 m c (ix3 h 0 (row t r)) := by
  have hN := lt_of_lt_of_eq t.isLt N_0
  by_cases h0 : t.val % 32 = 0
  · rw [outsAt0_A m c t h0]; dsimp only; rw [out0_A_11_apply]; exact iblk3 m c t h 0 r
  · rw [outsAt0_B m c t h0]; dsimp only; rw [out0_B_11_apply]; exact iblk3 m c t h 0 r

/-! ## The arrays -/

variable (ρ : Dev nD → PrngReg)

/-- The results hold their windows' flushed blocks; the arguments are as at the start. -/
theorem run_arr : θ_run defs (onTc (τ := τ) (main (F := Ideal))) ⟨m, fun _ => 0, ρ⟩ (fun r => ∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_v0_2) = (dats m 0 c).arrAt 8 cfg0.N
      ∧ r.2.mem ((c.tc : Thread nD τ).loc main_v0_3) = (dats m 0 c).arrAt 9 cfg0.N
      ∧ r.2.mem ((c.tc : Thread nD τ).loc main_v0_4) = (dats m 0 c).arrAt 10 cfg0.N
      ∧ r.2.mem ((c.tc : Thread nD τ).loc main_v0_5) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 6, (h c).1 7, (h c).1 8, (h c).1 9, (h c).1 10, (h c).1 11,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

theorem inj6 : ∀ t t' : Fin cfg0.N, win0_6.index t = win0_6.index t' → t = t' := fun t t' e => by
  have h := congrFun e (0 : Fin 2)
  rw [(idx6 t).1, (idx6 t').1] at h
  exact Fin.ext h
theorem inj7 : ∀ t t' : Fin cfg0.N, win0_7.index t = win0_7.index t' → t = t' := fun t t' e => by
  have h := congrFun e (0 : Fin 2)
  rw [(idx7 t).1, (idx7 t').1] at h
  exact Fin.ext h
theorem inj8 : ∀ t t' : Fin cfg0.N, win0_8.index t = win0_8.index t' → t = t' := fun t t' e => by
  have h := congrFun e (0 : Fin 2)
  rw [(idx8 t).1, (idx8 t').1] at h
  exact Fin.ext h
theorem inj9 : ∀ t t' : Fin cfg0.N, win0_9.index t = win0_9.index t' → t = t' := fun t t' e => by
  have h := congrFun e (1 : Fin 2)
  rw [(idx9 t).2, (idx9 t').2] at h
  exact Fin.ext h
theorem inj10 : ∀ t t' : Fin cfg0.N, win0_10.index t = win0_10.index t' → t = t' := fun t t' e => by
  have h := congrFun e (2 : Fin 3)
  rw [(idx10 t).2.2, (idx10 t').2.2] at h
  exact Fin.ext h
theorem inj11 : ∀ t t' : Fin cfg0.N, win0_11.index t = win0_11.index t' → t = t' := fun t t' e => by
  have h := congrFun e (0 : Fin 2)
  rw [(idx11 t).1, (idx11 t').1] at h
  exact Fin.ext h

theorem blocks6 (t : Fin cfg0.N) : ((cfg0.win 6).blk t).view.read (Elt Ideal) ((dats m 0 c).arrAt 6 cfg0.N) = (outsAt0 m c t.val t.isLt).1 := by
  refine ((dats m 0 c).read_blk_arrAt_eq_flushed 6 (fun t t' h h' hne => (cfg0.win 6).disjoint_blk fun e => hne (inj6 t t' e)) cfg0.N t t.isLt (flush0_6 t)).trans ?_
  show (cfg0.win 6).cut (grid0.coords t) ((dats m 0 c).after 6 t) = _
  rw [after0_6]; rfl

theorem blocks7 (t : Fin cfg0.N) : ((cfg0.win 7).blk t).view.read (Elt Ideal) ((dats m 0 c).arrAt 7 cfg0.N) = (outsAt0 m c t.val t.isLt).2.1 := by
  refine ((dats m 0 c).read_blk_arrAt_eq_flushed 7 (fun t t' h h' hne => (cfg0.win 7).disjoint_blk fun e => hne (inj7 t t' e)) cfg0.N t t.isLt (flush0_7 t)).trans ?_
  show (cfg0.win 7).cut (grid0.coords t) ((dats m 0 c).after 7 t) = _
  rw [after0_7]; rfl

theorem blocks8 (t : Fin cfg0.N) : ((cfg0.win 8).blk t).view.read (Elt Ideal) ((dats m 0 c).arrAt 8 cfg0.N) = (outsAt0 m c t.val t.isLt).2.2.1 := by
  refine ((dats m 0 c).read_blk_arrAt_eq_flushed 8 (fun t t' h h' hne => (cfg0.win 8).disjoint_blk fun e => hne (inj8 t t' e)) cfg0.N t t.isLt (flush0_8 t)).trans ?_
  show (cfg0.win 8).cut (grid0.coords t) ((dats m 0 c).after 8 t) = _
  rw [after0_8]; rfl

theorem blocks9 (t : Fin cfg0.N) : ((cfg0.win 9).blk t).view.read (Elt Ideal) ((dats m 0 c).arrAt 9 cfg0.N) = (outsAt0 m c t.val t.isLt).2.2.2.1 := by
  refine ((dats m 0 c).read_blk_arrAt_eq_flushed 9 (fun t t' h h' hne => (cfg0.win 9).disjoint_blk fun e => hne (inj9 t t' e)) cfg0.N t t.isLt (flush0_9 t)).trans ?_
  show (cfg0.win 9).cut (grid0.coords t) ((dats m 0 c).after 9 t) = _
  rw [after0_9]; rfl

theorem blocks10 (t : Fin cfg0.N) : ((cfg0.win 10).blk t).view.read (Elt Ideal) ((dats m 0 c).arrAt 10 cfg0.N) = (outsAt0 m c t.val t.isLt).2.2.2.2.1 := by
  refine ((dats m 0 c).read_blk_arrAt_eq_flushed 10 (fun t t' h h' hne => (cfg0.win 10).disjoint_blk fun e => hne (inj10 t t' e)) cfg0.N t t.isLt (flush0_10 t)).trans ?_
  show (cfg0.win 10).cut (grid0.coords t) ((dats m 0 c).after 10 t) = _
  rw [after0_10]; rfl

theorem blocks11 (t : Fin cfg0.N) : ((cfg0.win 11).blk t).view.read (Elt Ideal) ((dats m 0 c).arrAt 11 cfg0.N) = (outsAt0 m c t.val t.isLt).2.2.2.2.2.1 := by
  refine ((dats m 0 c).read_blk_arrAt_eq_flushed 11 (fun t t' h h' hne => (cfg0.win 11).disjoint_blk fun e => hne (inj11 t t' e)) cfg0.N t t.isLt (flush0_11 t)).trans ?_
  show (cfg0.win 11).cut (grid0.coords t) ((dats m 0 c).after 11 t) = _
  rw [after0_11]; rfl

theorem point (s : Fin 8192) : s.val / 256 < cfg0.N := by
  rw [show cfg0.N = 32 from N_0]; omega
theorem row_point (s : Fin 8192) : row ⟨s.val / 256, point s⟩ ⟨s.val % 256, Nat.mod_lt _ (by decide)⟩ = s :=
  Fin.ext (by show 256 * (s.val / 256) + s.val % 256 = s.val; omega)

theorem arr6 (s : Fin 8192) (d : Fin 7168) : ((dats m 0 c).arrAt 6 cfg0.N : Vec Ideal S8192x7168 .bf16) (ix2 s d) = YV (A1 m c) (A4 m c) (A5 m c) s d := by
  have e := congrFun (blocks6 m c ⟨s.val / 256, point s⟩) (ix2 ⟨s.val % 256, Nat.mod_lt _ (by decide)⟩ d)
  change ((dats m 0 c).arrAt 6 cfg0.N) (((cfg0.win 6).blk ⟨s.val / 256, point s⟩).view.emb (ix2 ⟨s.val % 256, Nat.mod_lt _ (by decide)⟩ d)) = _ at e
  rw [emb6, row_point] at e
  refine e.trans ((outs_y m c ⟨s.val / 256, point s⟩ ⟨s.val % 256, Nat.mod_lt _ (by decide)⟩ d).trans ?_)
  rw [row_point]

theorem arr7 (s : Fin 8192) (d : Fin 7168) : ((dats m 0 c).arrAt 7 cfg0.N : Vec Ideal S8192x7168 .fp8e4m3) (ix2 s d) = CV (A0 m c) s d := by
  have e := congrFun (blocks7 m c ⟨s.val / 256, point s⟩) (ix2 ⟨s.val % 256, Nat.mod_lt _ (by decide)⟩ d)
  change ((dats m 0 c).arrAt 7 cfg0.N) (((cfg0.win 7).blk ⟨s.val / 256, point s⟩).view.emb (ix2 ⟨s.val % 256, Nat.mod_lt _ (by decide)⟩ d)) = _ at e
  rw [emb7, row_point] at e
  refine e.trans ((outs_codes m c ⟨s.val / 256, point s⟩ ⟨s.val % 256, Nat.mod_lt _ (by decide)⟩ d).trans ?_)
  rw [row_point]

theorem arr8 (s : Fin 8192) (k : Fin 56) : ((dats m 0 c).arrAt 8 cfg0.N : Vec Ideal S8192x56 .f32) (ix2 s k) = SV (A0 m c) s k := by
  have e := congrFun (blocks8 m c ⟨s.val / 256, point s⟩) (ix2 ⟨s.val % 256, Nat.mod_lt _ (by decide)⟩ k)
  change ((dats m 0 c).arrAt 8 cfg0.N) (((cfg0.win 8).blk ⟨s.val / 256, point s⟩).view.emb (ix2 ⟨s.val % 256, Nat.mod_lt _ (by decide)⟩ k)) = _ at e
  rw [emb8, row_point] at e
  refine e.trans ((outs_scales m c ⟨s.val / 256, point s⟩ ⟨s.val % 256, Nat.mod_lt _ (by decide)⟩ k).trans ?_)
  rw [row_point]

theorem arr9 (a : Fin 512) (s : Fin 8192) : ((dats m 0 c).arrAt 9 cfg0.N : Vec Ideal S512x8192 .bf16) (ix2 a s) = GV (A0 m c) (A4 m c) (A5 m c) a s := by
  have e := congrFun (blocks9 m c ⟨s.val / 256, point s⟩) (ix2 a ⟨s.val % 256, Nat.mod_lt _ (by decide)⟩)
  change ((dats m 0 c).arrAt 9 cfg0.N) (((cfg0.win 9).blk ⟨s.val / 256, point s⟩).view.emb (ix2 a ⟨s.val % 256, Nat.mod_lt _ (by decide)⟩)) = _ at e
  rw [emb9, row_point] at e
  refine e.trans ((outs_grad m c ⟨s.val / 256, point s⟩ a ⟨s.val % 256, Nat.mod_lt _ (by decide)⟩).trans ?_)
  rw [row_point]

theorem arr10 (h : Fin 4) (s : Fin 8192) : ((dats m 0 c).arrAt 10 cfg0.N : Vec Ideal S4x1x8192 .f32) (ix3 h 0 s) = DSV (A0 m c) (A2 m c) (A4 m c) (A5 m c) h s := by
  have e := congrFun (blocks10 m c ⟨s.val / 256, point s⟩) (ix3 h 0 ⟨s.val % 256, Nat.mod_lt _ (by decide)⟩)
  change ((dats m 0 c).arrAt 10 cfg0.N) (((cfg0.win 10).blk ⟨s.val / 256, point s⟩).view.emb (ix3 h 0 ⟨s.val % 256, Nat.mod_lt _ (by decide)⟩)) = _ at e
  rw [emb10, row_point] at e
  refine e.trans ((outs_sums m c ⟨s.val / 256, point s⟩ h ⟨s.val % 256, Nat.mod_lt _ (by decide)⟩).trans ?_)
  rw [row_point]

theorem arr11 (s : Fin 8192) (h : Fin 4) : ((dats m 0 c).arrAt 11 cfg0.N : Vec Ideal S8192x4 .f32) (ix2 s h) = A3 m c (ix3 h 0 s) := by
  have e := congrFun (blocks11 m c ⟨s.val / 256, point s⟩) (ix2 ⟨s.val % 256, Nat.mod_lt _ (by decide)⟩ h)
  change ((dats m 0 c).arrAt 11 cfg0.N) (((cfg0.win 11).blk ⟨s.val / 256, point s⟩).view.emb (ix2 ⟨s.val % 256, Nat.mod_lt _ (by decide)⟩ h)) = _ at e
  rw [emb11, row_point] at e
  refine e.trans ((outs_stats m c ⟨s.val / 256, point s⟩ ⟨s.val % 256, Nat.mod_lt _ (by decide)⟩ h).trans ?_)
  rw [row_point]

end Cert.MidIdeal.Block

end
-- ==== Proof.MidRef.lean ====
/-
  The reference of `k4_mid` at an entry: its six results are the functions of the arguments that `MidValue` states.
-/
module

public import proofs.«01_k».proof.Proof.MidValue
public import proofs.«01_k».proof.Proof.Gen.MidRefIdeal.Value

@[expose] public section

set_option maxRecDepth 65536

noncomputable section

namespace Cert.MidRefIdeal.Block

open Idealize.ShloMosaic Idealize.ShloMosaic.TcCoe Idealize.ShloMosaic.Tactic Cert.MidRefIdeal Cert.MidRefIdeal.Gen Cert.MidIdeal.Block

variable (a0 : Vec Ideal S8192x7168 .bf16) (a1 : Vec Ideal S8192x512 .bf16) (a2 : Vec Ideal S512x8192 .f32) (a3 : Vec Ideal S4x1x8192 .f32)
  (a4 : Vec Ideal S512x7168 .fp8e4m3) (a5 : Vec Ideal S4x7168 .f32)

/-! ## The scales -/

/-- The largest magnitude of each group over 448. -/
def AM (x : FVec Ideal S8192x56x128 .f32) : FVec Ideal S8192x56x1 .f32 :=
  mulf (shapeCast S8192x56x1 (multiReduction .maximumf [2] S8192x56 (absf x) 0xFF800000#32 reduces_S8192x56x128_S8192x56 (.inl rfl) rfl) shapeCasts_S8192x56_S8192x56x1)
    (broadcast S8192x56x1 (Scalar.ofBits .f32 0x3B124925#32))

/-- The exponents of the groups' scales. -/
def EX (v : FVec Ideal S8192x56x1 .f32) : FVec Ideal S8192x56x1 .f32 :=
  select (cmpf .oeq v (broadcast S8192x56x1 (Scalar.ofBits .f32 0x00000000#32))) (broadcast S8192x56x1 (Scalar.ofBits .f32 0x00000000#32))
    (minimumf (broadcast S8192x56x1 (Scalar.sitofp .f32 126#32)) (maximumf (broadcast S8192x56x1 (Scalar.sitofp .f32 4294967170#32))
      (addf (floor (divf (log v) (log (broadcast S8192x56x1 (Scalar.ofBits .f32 0x40000000#32))))) (broadcast S8192x56x1 (Scalar.ofBits .f32 0x3F800000#32)))))

theorem EX_apply (v : FVec Ideal S8192x56x1 .f32) (i : S8192x56x1.Idx) : EX v i = Cert.Scale.rexp (v i) := rfl

theorem scale_mul (v : FVec Ideal S8192x56x1 .f32) (i : S8192x56x1.Idx) :
    mulf v (broadcast S8192x56x1 (Scalar.ofBits .f32 0x3B124925#32)) i = v i * Ideal.ofBits .f32 0x3B124925#32 := rfl

theorem col_of_row (v : FVec Ideal S8192x56 .f32) (s : Fin 8192) (k : Fin 56) :
    shapeCast S8192x56x1 v shapeCasts_S8192x56_S8192x56x1 (ix3 s k (0 : Fin 1)) = v (ix2 s k) := by
  pointwise

theorem max_of_group (x : FVec Ideal S8192x56x128 .f32) (s : Fin 8192) (k : Fin 56) :
    multiReduction .maximumf [2] S8192x56 x 0xFF800000#32 reduces_S8192x56x128_S8192x56 (.inl rfl) rfl (ix2 s k)
      = Finset.univ.fold max (Ideal.ofBits .f32 0xFF800000#32) fun l => x (ix3 s k l) := by
  pointwise

theorem AM_apply (x : FVec Ideal S8192x56x128 .f32) (s : Fin 8192) (k : Fin 56) :
    AM x (ix3 s k (0 : Fin 1)) = Cert.Scale.gmax fun l => x (ix3 s k l) := by
  unfold AM
  rw [scale_mul, col_of_row, max_of_group]
  rfl

theorem groups (s : Fin 8192) (k : Fin 56) (l : Fin 128) : k0_pay7 a0 (ix3 s k l) = GRP a0 k.val k.isLt s l := by
  pointwise [k0_pay7]
  have e : (⟨k.val * 128 + l.val, by omega⟩ : Fin 7168) = col k.val k.isLt l := Fin.ext (by show k.val * 128 + l.val = 128 * k.val + l.val; omega)
  exact congrArg (fun d => a0 (ix2 s d)) e

theorem exponents (s : Fin 8192) (k : Fin 56) :
    k0_pay8 a0 (ix3 s k (0 : Fin 1)) = Cert.Scale.rexp (Cert.Scale.gmax (GRP a0 k.val k.isLt s)) := by
  have e : k0_pay8 a0 = EX (AM (k0_pay7 a0)) := rfl
  rw [e, EX_apply, AM_apply, show (fun l => k0_pay7 a0 (ix3 s k l)) = GRP a0 k.val k.isLt s from funext fun l => groups a0 s k l]

theorem exp2_apply (x : FVec Ideal S8192x56x1 .f32) (i : S8192x56x1.Idx) : exp2 x i = Ideal.exp2 (x i) := rfl
theorem exp2_neg_apply (x : FVec Ideal S8192x56x1 .f32) (i : S8192x56x1.Idx) :
    exp2 (subf (broadcast S8192x56x1 (Scalar.ofBits .f32 0x00000000#32)) x) i = Ideal.exp2 (Ideal.ofBits .f32 0x00000000#32 - x i) := rfl

theorem scales (s : Fin 8192) (k : Fin 56) : k0_pay9 a0 (ix3 s k (0 : Fin 1)) = SV a0 s k := by
  unfold k0_pay9
  refine (exp2_apply _ _).trans ?_
  rw [exponents]
  exact (Cert.Scale.scale_eq _).1.symm

/-! ## The codes and the dequantised rows -/

theorem over_group (v : FVec Ideal S8192x56x1 .f32) (s : Fin 8192) (k : Fin 56) (l : Fin 128) :
    broadcastTo S8192x56x128 v broadcasts_S8192x56x1_S8192x56x128 (ix3 s k l) = v (ix3 s k (0 : Fin 1)) := by
  generalize hi : (ix3 s k (0 : Fin 1)) = i
  pointwise
  rw [← hi]

theorem clip_apply (x y : FVec Ideal S8192x56x128 .f32) (j : S8192x56x128.Idx) :
    truncf .fp8e4m3 (minimumf (broadcast S8192x56x128 (Scalar.ofBits .f32 0x43E00000#32))
      (maximumf (broadcast S8192x56x128 (Scalar.ofBits .f32 0xC3E00000#32)) (mulf x y))) bitsLt_fp8e4m3_f32 j
    = min (Ideal.ofBits .f32 0x43E00000#32) (max (Ideal.ofBits .f32 0xC3E00000#32) (x j * y j)) := rfl

theorem codes3 (s : Fin 8192) (k : Fin 56) (l : Fin 128) : k0_pay10 a0 (ix3 s k l) = Cert.Scale.code (GRP a0 k.val k.isLt s) l := by
  unfold k0_pay10
  refine (clip_apply _ _ _).trans ?_
  rw [over_group, exp2_neg_apply, exponents, groups, ← (Cert.Scale.scale_eq _).2]
  rfl

theorem codes (s : Fin 8192) (d : Fin 7168) : k0_pay12 a0 (ix2 s d) = CV a0 s d := by
  have e := codes3 a0 s ⟨d.val / 128, by omega⟩ ⟨d.val % 128, Nat.mod_lt _ (by decide)⟩
  unfold k0_pay12
  generalize k0_pay10 a0 = x at e ⊢
  pointwise
  exact e

theorem scales2 (s : Fin 8192) (k : Fin 56) : k0_pay13 a0 (ix2 s k) = SV a0 s k := by
  have e := scales a0 s k
  unfold k0_pay13
  generalize k0_pay9 a0 = x at e ⊢
  pointwise
  exact e

theorem deq (s : Fin 8192) (d : Fin 7168) : k0_pay11 a0 (ix2 s d) = DV a0 s d := by
  have e := codes3 a0 s ⟨d.val / 128, by omega⟩ ⟨d.val % 128, Nat.mod_lt _ (by decide)⟩
  have e' := scales a0 s ⟨d.val / 128, by omega⟩
  unfold k0_pay11
  generalize k0_pay10 a0 = x at e ⊢
  generalize k0_pay9 a0 = y at e' ⊢
  pointwise
  exact congrArg₂ (· * ·) e e'

/-! ## The products -/

theorem weights (a : Fin 512) (d : Fin 7168) : k0_pay1 a4 a5 (ix2 a d) = wv a4 a5 a d := by
  pointwise [k0_pay1]
  rfl

theorem out_y (s : Fin 8192) (d : Fin 7168) : k0_pay2 a4 a5 a1 (ix2 s d) = YV a1 a4 a5 s d := by
  have e := weights a4 a5
  unfold k0_pay2
  generalize k0_pay1 a4 a5 = x at e ⊢
  pointwise
  exact Finset.sum_congr rfl fun a _ => by rw [e]

theorem grad (q : Vec Ideal S8192x7168 .bf16) (hq : ∀ s d, q (ix2 s d) = DV a0 s d) (a : Fin 512) (s : Fin 8192) :
    k0_pay3 q a4 a5 (ix2 a s) = GV a0 a4 a5 a s := by
  have e := weights a4 a5
  unfold k0_pay3
  generalize k0_pay1 a4 a5 = x at e ⊢
  pointwise
  exact Finset.sum_congr rfl fun d _ => by rw [e, hq]

theorem sums (q : Vec Ideal S8192x7168 .bf16) (hq : ∀ s d, q (ix2 s d) = DV a0 s d) (h : Fin 4) (s : Fin 8192) :
    k0_pay5 q a4 a5 a2 (ix3 h (0 : Fin 1) s) = DSV a0 a2 a4 a5 h s := by
  have e := grad a0 a4 a5 q hq
  unfold k0_pay5
  generalize k0_pay3 q a4 a5 = x at e ⊢
  pointwise
  refine Finset.sum_congr rfl fun i _ => ?_
  have hi : (⟨h.val * 128 + i.val, by omega⟩ : Fin 512) = hrow h.val h.isLt i := Fin.ext (by show h.val * 128 + i.val = 128 * h.val + i.val; omega)
  refine (congrArg (fun r => x (ix2 r s) * a2 (ix2 r s)) hi).trans ?_
  rw [e]

theorem stats (s : Fin 8192) (h : Fin 4) : k0_pay6 a3 (ix2 s h) = a3 (ix3 h (0 : Fin 1) s) := by
  pointwise [k0_pay6]

theorem pay14 : k0_pay14 a0 a1 a2 a3 a4 a5 = k0_pay11 a0 := by
  unfold k0_pay14
  rw [View.ld_unit_zero (S := S8192x7168) (by decide) _ a0]

end Cert.MidRefIdeal.Block

end
-- ==== Proof.MidClaim.lean ====
/-
  The claims about `k4_mid`: both programs leave the six results at the same functions of the arguments.
-/
module

public import proofs.«01_k».proof.Defs
public import proofs.«01_k».proof.Proof.MidRef
public import proofs.«01_k».proof.Proof.Gen.Mid.Frame

@[expose] public section

set_option maxRecDepth 65536

noncomputable section

namespace Cert.MidIdeal.Block

open Idealize.ShloMosaic Idealize.ShloMosaic.TcCoe Idealize.ShloMosaic.Tactic Idealize.SL.Sem Cert.MidIdeal Cert.MidIdeal.Gen

theorem preserves : Cert.preserves_Mid_MidIdeal := trivial

/-! ## The reference's results are the kernel's arrays -/

section

variable (m : (ℓ : Loc nD τ sig) → Buf (Elt Ideal) ℓ) (c : Dev nD)

theorem eq2 {n0 n1 : ℕ} {α : Type} (f g : (⟨2, ![n0, n1]⟩ : Shape).Idx → α) (h : ∀ (a : Fin n0) (b : Fin n1), f (ix2 a b) = g (ix2 a b)) : f = g :=
  funext fun i => by
    rw [← ix2_eta (n0 := n0) (n1 := n1) i]
    exact h _ _

theorem y_eq : Cert.MidRefIdeal.Gen.k0_pay2 (A4 m c) (A5 m c) (A1 m c) = (dats m 0 c).arrAt 6 cfg0.N :=
  eq2 (n0 := 8192) (n1 := 7168) _ _ fun s d => (Cert.MidRefIdeal.Block.out_y (A1 m c) (A4 m c) (A5 m c) s d).trans (arr6 m c s d).symm
theorem codes_eq : Cert.MidRefIdeal.Gen.k0_pay12 (A0 m c) = (dats m 0 c).arrAt 7 cfg0.N :=
  eq2 (n0 := 8192) (n1 := 7168) _ _ fun s d => (Cert.MidRefIdeal.Block.codes (A0 m c) s d).trans (arr7 m c s d).symm
theorem scales_eq : Cert.MidRefIdeal.Gen.k0_pay13 (A0 m c) = (dats m 0 c).arrAt 8 cfg0.N :=
  eq2 (n0 := 8192) (n1 := 56) _ _ fun s k => (Cert.MidRefIdeal.Block.scales2 (A0 m c) s k).trans (arr8 m c s k).symm
theorem grad_eq : Cert.MidRefIdeal.Gen.k0_pay4 (Cert.MidRefIdeal.Gen.k0_pay11 (A0 m c)) (A4 m c) (A5 m c) = (dats m 0 c).arrAt 9 cfg0.N :=
  eq2 (n0 := 512) (n1 := 8192) _ _ fun a s =>
    (Cert.MidRefIdeal.Block.grad (A0 m c) (A4 m c) (A5 m c) _ (Cert.MidRefIdeal.Block.deq (A0 m c)) a s).trans (arr9 m c a s).symm
theorem sums_eq : Cert.MidRefIdeal.Gen.k0_pay5 (Cert.MidRefIdeal.Gen.k0_pay11 (A0 m c)) (A4 m c) (A5 m c) (A2 m c) = (dats m 0 c).arrAt 10 cfg0.N := by
  refine funext fun i => ?_
  obtain ⟨h, s, rfl⟩ : ∃ (h : Fin 4) (s : Fin 8192), i = ix3 h (0 : Fin 1) s := ⟨i 0, i 2, by
    funext a; match a with
    | ⟨0, _⟩ => rfl
    | ⟨1, _⟩ => exact Subsingleton.elim (α := Fin 1) _ _
    | ⟨2, _⟩ => rfl⟩
  exact (Cert.MidRefIdeal.Block.sums (A0 m c) (A2 m c) (A4 m c) (A5 m c) _ (Cert.MidRefIdeal.Block.deq (A0 m c)) h s).trans (arr10 m c h s).symm
theorem stats_eq : Cert.MidRefIdeal.Gen.k0_pay6 (A3 m c) = (dats m 0 c).arrAt 11 cfg0.N :=
  eq2 (n0 := 8192) (n1 := 4) _ _ fun s h => (Cert.MidRefIdeal.Block.stats (A3 m c) s h).trans (arr11 m c s h).symm

end

theorem algebraic : Cert.algebraic_MidIdeal_MidRefIdeal := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N, fun c => (dats m 0 c).arrAt 10 cfg0.N, fun c => (dats m 0 c).arrAt 11 cfg0.N, run_arr m g, ?_⟩
  refine (θ_run _ _ _).mono (fun r h c => ?_) (Cert.MidRefIdeal.Value.run (F := Ideal) m' g')
  obtain ⟨h6, h7, h8, h9, h10, h11, hk⟩ := h c
  obtain ⟨e0, e1, e2, e3, e4, e5⟩ := hagree c
  refine ⟨h6.trans ?_, h7.trans ?_, h8.trans ?_, h9.trans ?_, h10.trans ?_, h11.trans ?_, hk⟩
  · rw [e0, e1, e2, e3, e4, e5]; exact y_eq m c
  · rw [e0, e1, e2, e3, e4, e5]; exact codes_eq m c
  · rw [e0, e1, e2, e3, e4, e5]; exact scales_eq m c
  · rw [e0, e1, e2, e3, e4, e5]
    unfold Cert.MidRefIdeal.Value.G9
    rw [Cert.MidRefIdeal.Block.pay14]; exact grad_eq m c
  · rw [e0, e1, e2, e3, e4, e5]
    unfold Cert.MidRefIdeal.Value.G10
    rw [Cert.MidRefIdeal.Block.pay14]; exact sums_eq m c
  · rw [e0, e1, e2, e3, e4, e5]; exact stats_eq m c

end Cert.MidIdeal.Block

end
-- ==== Proof.BwdRun.lean ====
/-
  The body of the attention backward call, read as functions of the blocks it is handed. One trip of its loop takes the
  three accumulators (the gradient of q of the head, and the gradients of k and v of the key block) to the next; the
  first, masked step does the same for the diagonal tile; `last` is what they hold when the loop ends.
-/
module

public import proofs.«01_k».proof.Proof.Gen.BwdIdeal.Frame
public import proofs.«01_k».proof.Proof.Gen.BwdIdeal.Skeleton
public import proofs.«01_k».proof.Proof.Gen.BwdIdeal.Loops
public import Idealize.ShloMosaic.Lib.Claim
public import Idealize.ShloMosaic.Lib.VecWindow

@[expose] public section

set_option maxRecDepth 16384

noncomputable section

namespace Cert.BwdIdeal.Block

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F] [Named F]

local notation "𝕄" => MT nD τ sig Unit (Elt F) ℕ (UR sig nD τ) ℕ

/-- The blocks the body reads: q and k transposed to heads, the transpose of k's block, v's block, the gradient of
    the attention output, the logarithms of the row sums, and the rows' correction terms. -/
structure Ins (F : FTy → Type) where
  q : Vec F S1x192x8192 .bf16
  k : Vec F S1x512x192 .bf16
  kt : Vec F S1x192x512 .bf16
  v : Vec F S1x512x128 .bf16
  d : Vec F S128x8192 .bf16
  l : Vec F S1x1x8192 .f32
  e : Vec F S1x1x8192 .f32

/-- The three accumulators: the gradients of q, k and v. -/
structure Acc (F : FTy → Type) where
  y : Vec F S1x192x8192 .f32
  z : Vec F S192x512 .f32
  w : Vec F S128x512 .f32

/-- The rounded gradient of the scores of one tile below the diagonal. -/
def dsOf (I : Ins F) (i : grid0.Coords) (n : Fin (k0_t1_loop i).trips) : FVec F S512x512 .bf16 :=
  k0_pay10 (window I.q (k0_off4 i n) S1x192x512.size (k0_off4_inb i n))
    (window I.d (k0_off5 i n) S128x512.size (k0_off5_inb i n)) I.k I.v
    (window I.l (k0_off6 i n) S1x1x512.size (k0_off6_inb i n)) (window I.e (k0_off6 i n) S1x1x512.size (k0_off6_inb i n))

/-- One trip of the loop. -/
def trip (I : Ins F) (i : grid0.Coords) (n : Fin (k0_t1_loop i).trips) (s : Acc F) : Acc F where
  y := put s.y (k0_off4 i n) S1x192x512.size
    (k0_pay3 (dsOf I i n) (window s.y (k0_off4 i n) S1x192x512.size (k0_off4_inb i n)) I.kt)
  z := k0_pay2 (k0_pay8 (window I.q (k0_off4 i n) S1x192x512.size (k0_off4_inb i n))) (dsOf I i n) s.z
  w := k0_pay11 (window I.q (k0_off4 i n) S1x192x512.size (k0_off4_inb i n))
    (window I.d (k0_off5 i n) S128x512.size (k0_off5_inb i n)) I.k
    (window I.l (k0_off6 i n) S1x1x512.size (k0_off6_inb i n)) s.w

/-- The accumulators before trip `n`. -/
def walk (I : Ins F) (i : grid0.Coords) (s : Acc F) : ℕ → Acc F
  | 0 => s
  | n + 1 => if h : n < (k0_t1_loop i).trips then trip I i ⟨n, h⟩ (walk I i s n) else walk I i s n

/-- The scores' exponentials of the diagonal tile, before the mask. -/
def pOf (I : Ins F) (i : grid0.Coords) : FVec F S512x512 .f32 :=
  k0_pay21 (window I.q (k0_off1 i) S1x192x512.size (k0_off1_inb i)) I.k
    (window I.l (k0_off3 i) S1x1x512.size (k0_off3_inb i))

/-- The product of v with the output gradient, on the diagonal tile. -/
def dpOf (I : Ins F) (i : grid0.Coords) : FVec F S512x512 .f32 :=
  k0_pay20 (window I.d (k0_off2 i) S128x512.size (k0_off2_inb i)) I.v

/-- The row numbers of a tile. -/
def rows : IVec S512x512 32 := iota .tc S512x512 32 [0] iota_S512x512_d0_w32

/-- The masked step of the diagonal tile. -/
def first (I : Ins F) (i : grid0.Coords) (s : Acc F) : Acc F where
  y := put s.y (k0_off1 i) S1x192x512.size
    (k0_pay1 (k0_pay26 (dpOf I i) (pOf I i) rows (window I.e (k0_off3 i) S1x1x512.size (k0_off3_inb i))
      (window s.y (k0_off1 i) S1x192x512.size (k0_off1_inb i)) I.kt))
  z := k0_pay25 (k0_pay19 (window I.q (k0_off1 i) S1x192x512.size (k0_off1_inb i))) (dpOf I i) (pOf I i) rows
    (window I.e (k0_off3 i) S1x1x512.size (k0_off3_inb i)) s.z
  w := k0_pay24 (window I.d (k0_off2 i) S128x512.size (k0_off2_inb i)) (pOf I i) rows s.w

/-- What the accumulators hold after the whole loop. -/
def last (I : Ins F) (i : grid0.Coords) (s : Acc F) : Acc F := walk I i (first I i s) (k0_t1_loop i).trips

/-- The second loop makes no trip: the first has covered the whole range. -/
theorem trips2 (i : grid0.Coords) : (k0_t2_loop i).trips = 0 := by
  unfold k0_t2_loop
  have h : ∀ a : Fin 16, (Scf.Loop.trips (w := 32) (let v69 := Scalar.addi (BitVec.ofNat 32 a.val) 1#32
      let v70 := Scalar.subi 16#32 v69
      ⟨Scalar.addi v69 (Scalar.muli (Scalar.divsi v70 1#32) 1#32), Scalar.addi v69 v70, 1#32⟩)) = 0 := by decide +kernel
  exact h (i 1)

/-- The condition under which the body zeroes the gradient of q: the first key block of a head. -/
abbrev cond0_0 (i : grid0.Coords) : Prop := (Scalar.cmpi .ne (Scalar.extui (Scalar.cmpi .eq (BitVec.ofNat 32 (i 1).val) 0#32)) 0#32) = 1#1

section
variable (𝒱 : Variants) (c : Dev nD) (bd : Option 𝒱.V) (i : grid0.Coords) (arg2 : Memref sig .tc .vmem S1x192x8192 .bf16) (harg2 : arg2.IsWhole)
    (arg3 : Memref sig .tc .vmem S1x512x192 .bf16) (harg3 : arg3.IsWhole)
    (arg4 : Memref sig .tc .vmem S1x192x512 .bf16) (harg4 : arg4.IsWhole)
    (arg5 : Memref sig .tc .vmem S1x512x128 .bf16) (harg5 : arg5.IsWhole)
    (arg6 : Memref sig .tc .vmem S128x8192 .bf16) (harg6 : arg6.IsWhole)
    (arg7 : Memref sig .tc .vmem S1x1x8192 .f32) (harg7 : arg7.IsWhole)
    (arg8 : Memref sig .tc .vmem S1x1x8192 .f32) (harg8 : arg8.IsWhole)
    (arg9 : Memref sig .tc .vmem S1x192x8192 .f32) (harg9 : arg9.IsWhole)
    (arg10 : Memref sig .tc .vmem S1x192x512 .f32) (harg10 : arg10.IsWhole)
    (arg11 : Memref sig .tc .vmem S1x128x512 .f32) (harg11 : arg11.IsWhole)
    (arg12 : Memref sig .tc .vmem S192x512 .f32) (harg12 : arg12.IsWhole)
    (arg13 : Memref sig .tc .vmem S128x512 .f32) (harg13 : arg13.IsWhole) (v69 : BitVec 32)
    (X_arg2 : BufTy.Contents (Elt F) arg2.view.ty)
    (X_arg3 : BufTy.Contents (Elt F) arg3.view.ty)
    (X_arg4 : BufTy.Contents (Elt F) arg4.view.ty)
    (X_arg5 : BufTy.Contents (Elt F) arg5.view.ty)
    (X_arg6 : BufTy.Contents (Elt F) arg6.view.ty)
    (X_arg7 : BufTy.Contents (Elt F) arg7.view.ty)
    (X_arg8 : BufTy.Contents (Elt F) arg8.view.ty)

/-- The pieces one trip writes. -/
theorem trip_pieces (n : Fin (k0_t1_loop i).trips) (f9 : BufTy.Contents (Elt F) arg9.view.ty) (f12 : BufTy.Contents (Elt F) arg12.view.ty) (f13 : BufTy.Contents (Elt F) arg13.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 n f9 f12 f13
      = ([⟨Rect.unit (s := S1x192x8192) (k0_off4 i n) S1x192x512.size (k0_off4_inb i n),
            k0_pay3 (k0_pay10 (arg2.view.readAt (Elt F) (Rect.unit (s := S1x192x8192) (k0_off4 i n) S1x192x512.size (k0_off4_inb i n)).toLoadRect X_arg2) (arg6.view.readAt (Elt F) (Rect.unit (s := S128x8192) (k0_off5 i n) S128x512.size (k0_off5_inb i n)).toLoadRect X_arg6) (arg3.view.readAt (Elt F) (Rect.unit (s := S1x512x192) ![0, 0, 0] S1x512x192.size inb_S1x512x192_S1x512x192_0_0_0).toLoadRect X_arg3) (arg5.view.readAt (Elt F) (Rect.unit (s := S1x512x128) ![0, 0, 0] S1x512x128.size inb_S1x512x128_S1x512x128_0_0_0).toLoadRect X_arg5) (arg7.view.readAt (Elt F) (Rect.unit (s := S1x1x8192) (k0_off6 i n) S1x1x512.size (k0_off6_inb i n)).toLoadRect X_arg7) (arg8.view.readAt (Elt F) (Rect.unit (s := S1x1x8192) (k0_off6 i n) S1x1x512.size (k0_off6_inb i n)).toLoadRect X_arg8)) (arg9.view.readAt (Elt F) (Rect.unit (s := S1x192x8192) (k0_off4 i n) S1x192x512.size (k0_off4_inb i n)).toLoadRect f9) (arg4.view.readAt (Elt F) (Rect.unit (s := S1x192x512) ![0, 0, 0] S1x192x512.size inb_S1x192x512_S1x192x512_0_0_0).toLoadRect X_arg4)⟩],
         [⟨Rect.unit (s := S192x512) ![0, 0] S192x512.size inb_S192x512_S192x512_0_0,
            k0_pay2 (k0_pay8 (arg2.view.readAt (Elt F) (Rect.unit (s := S1x192x8192) (k0_off4 i n) S1x192x512.size (k0_off4_inb i n)).toLoadRect X_arg2)) (k0_pay10 (arg2.view.readAt (Elt F) (Rect.unit (s := S1x192x8192) (k0_off4 i n) S1x192x512.size (k0_off4_inb i n)).toLoadRect X_arg2) (arg6.view.readAt (Elt F) (Rect.unit (s := S128x8192) (k0_off5 i n) S128x512.size (k0_off5_inb i n)).toLoadRect X_arg6) (arg3.view.readAt (Elt F) (Rect.unit (s := S1x512x192) ![0, 0, 0] S1x512x192.size inb_S1x512x192_S1x512x192_0_0_0).toLoadRect X_arg3) (arg5.view.readAt (Elt F) (Rect.unit (s := S1x512x128) ![0, 0, 0] S1x512x128.size inb_S1x512x128_S1x512x128_0_0_0).toLoadRect X_arg5) (arg7.view.readAt (Elt F) (Rect.unit (s := S1x1x8192) (k0_off6 i n) S1x1x512.size (k0_off6_inb i n)).toLoadRect X_arg7) (arg8.view.readAt (Elt F) (Rect.unit (s := S1x1x8192) (k0_off6 i n) S1x1x512.size (k0_off6_inb i n)).toLoadRect X_arg8)) (arg12.view.readAt (Elt F) (Rect.unit (s := S192x512) ![0, 0] S192x512.size inb_S192x512_S192x512_0_0).toLoadRect f12)⟩],
         [⟨Rect.unit (s := S128x512) ![0, 0] S128x512.size inb_S128x512_S128x512_0_0,
            k0_pay11 (arg2.view.readAt (Elt F) (Rect.unit (s := S1x192x8192) (k0_off4 i n) S1x192x512.size (k0_off4_inb i n)).toLoadRect X_arg2) (arg6.view.readAt (Elt F) (Rect.unit (s := S128x8192) (k0_off5 i n) S128x512.size (k0_off5_inb i n)).toLoadRect X_arg6) (arg3.view.readAt (Elt F) (Rect.unit (s := S1x512x192) ![0, 0, 0] S1x512x192.size inb_S1x512x192_S1x512x192_0_0_0).toLoadRect X_arg3) (arg7.view.readAt (Elt F) (Rect.unit (s := S1x1x8192) (k0_off6 i n) S1x1x512.size (k0_off6_inb i n)).toLoadRect X_arg7) (arg13.view.readAt (Elt F) (Rect.unit (s := S128x512) ![0, 0] S128x512.size inb_S128x512_S128x512_0_0).toLoadRect f13)⟩]) := by
  unfold tripL_k0_t1 trip_k0_t1
  rfl

/-- What the three written buffers hold before trip `n`. -/
theorem loop_read (G_arg9 : BufTy.Contents (Elt F) arg9.view.ty)
    (G_arg12 : BufTy.Contents (Elt F) arg12.view.ty)
    (G_arg13 : BufTy.Contents (Elt F) arg13.view.ty) (n : ℕ) (hn : n ≤ (k0_t1_loop i).trips) :
    (⟨arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 n).1),
      arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 n).2.1),
      arg13.view.read (Elt F) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 n).2.2)⟩ : Acc F)
      = walk ⟨arg2.view.read (Elt F) X_arg2, arg3.view.read (Elt F) X_arg3, arg4.view.read (Elt F) X_arg4, arg5.view.read (Elt F) X_arg5, arg6.view.read (Elt F) X_arg6, arg7.view.read (Elt F) X_arg7, arg8.view.read (Elt F) X_arg8⟩ i
          ⟨arg9.view.read (Elt F) G_arg9, arg12.view.read (Elt F) G_arg12, arg13.view.read (Elt F) G_arg13⟩ n := by
  have e3 : (arg3.view.readAt (Elt F) (Rect.unit (s := S1x512x192) ![0, 0, 0] S1x512x192.size inb_S1x512x192_S1x512x192_0_0_0).toLoadRect X_arg3) = arg3.view.read (Elt F) X_arg3 := View.readAt_full _ _ _
  have e4 : (arg4.view.readAt (Elt F) (Rect.unit (s := S1x192x512) ![0, 0, 0] S1x192x512.size inb_S1x192x512_S1x192x512_0_0_0).toLoadRect X_arg4) = arg4.view.read (Elt F) X_arg4 := View.readAt_full _ _ _
  have e5 : (arg5.view.readAt (Elt F) (Rect.unit (s := S1x512x128) ![0, 0, 0] S1x512x128.size inb_S1x512x128_S1x512x128_0_0_0).toLoadRect X_arg5) = arg5.view.read (Elt F) X_arg5 := View.readAt_full _ _ _
  induction n with
  | zero => rfl
  | succ n ih =>
    have hn' : n < (k0_t1_loop i).trips := hn
    have e : pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 (n + 1) = _ :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 ⟨n, hn'⟩
    rw [trip_pieces] at e
    rw [e]
    have ih := ih hn'.le
    unfold walk
    rw [dif_pos hn', ← ih]
    unfold trip dsOf
    simp only [List.cons_append, List.nil_append]
    congr 1
    · rw [View.read_writes_cons_put _ _ _ _ _ rfl]
      rw [e3, e4, e5]; rfl
    · refine (View.read_writes_full _ _ _ _ _).trans ?_
      rw [e3, e5, View.readAt_full arg12.view]; rfl
    · refine (View.read_writes_full _ _ _ _ _).trans ?_
      rw [e3, View.readAt_full arg13.view]; rfl

/-- The same, from any state the buffers hold when the loop is entered. -/
theorem loop_last (G_arg9 : BufTy.Contents (Elt F) arg9.view.ty)
    (G_arg12 : BufTy.Contents (Elt F) arg12.view.ty)
    (G_arg13 : BufTy.Contents (Elt F) arg13.view.ty) (I : Ins F) (hI : ⟨arg2.view.read (Elt F) X_arg2, arg3.view.read (Elt F) X_arg3, arg4.view.read (Elt F) X_arg4, arg5.view.read (Elt F) X_arg5, arg6.view.read (Elt F) X_arg6, arg7.view.read (Elt F) X_arg7, arg8.view.read (Elt F) X_arg8⟩ = I) (s : Acc F)
    (h9 : arg9.view.read (Elt F) G_arg9 = s.y) (h12 : arg12.view.read (Elt F) G_arg12 = s.z) (h13 : arg13.view.read (Elt F) G_arg13 = s.w) :
    (⟨arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 (k0_t1_loop i).trips).1),
      arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 (k0_t1_loop i).trips).2.1),
      arg13.view.read (Elt F) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 (k0_t1_loop i).trips).2.2)⟩ : Acc F)
      = walk I i s (k0_t1_loop i).trips := by
  rw [loop_read 𝒱 c bd i arg2 harg2 arg3 harg3 arg4 harg4 arg5 harg5 arg6 harg6 arg7 harg7 arg8 harg8 arg9 harg9 arg10 harg10 arg11 harg11 arg12 harg12 arg13 harg13 v69 X_arg2 X_arg3 X_arg4 X_arg5 X_arg6 X_arg7 X_arg8 G_arg9 G_arg12 G_arg13 (k0_t1_loop i).trips le_rfl, hI, h9, h12, h13]
end

set_option maxHeartbeats 4000000 in
/-- The body at the first key block of a head, whatever the three outputs held. -/
theorem run_A (c : Dev nD) (i : grid0.Coords) (arg2 : Memref sig .tc .vmem S1x192x8192 .bf16) (harg2 : arg2.IsWhole)
    (arg3 : Memref sig .tc .vmem S1x512x192 .bf16) (harg3 : arg3.IsWhole)
    (arg4 : Memref sig .tc .vmem S1x192x512 .bf16) (harg4 : arg4.IsWhole)
    (arg5 : Memref sig .tc .vmem S1x512x128 .bf16) (harg5 : arg5.IsWhole)
    (arg6 : Memref sig .tc .vmem S128x8192 .bf16) (harg6 : arg6.IsWhole)
    (arg7 : Memref sig .tc .vmem S1x1x8192 .f32) (harg7 : arg7.IsWhole)
    (arg8 : Memref sig .tc .vmem S1x1x8192 .f32) (harg8 : arg8.IsWhole)
    (arg9 : Memref sig .tc .vmem S1x192x8192 .f32) (harg9 : arg9.IsWhole)
    (arg10 : Memref sig .tc .vmem S1x192x512 .f32) (harg10 : arg10.IsWhole)
    (arg11 : Memref sig .tc .vmem S1x128x512 .f32) (harg11 : arg11.IsWhole)
    (arg12 : Memref sig .tc .vmem S192x512 .f32) (harg12 : arg12.IsWhole)
    (arg13 : Memref sig .tc .vmem S128x512 .f32) (harg13 : arg13.IsWhole) (hc0 : cond0_0 i) (I : Ins F) (E : Set ℕ) (K : PUnit → sProp 𝕄) :
    iprop(owns (c : Thread nD τ) arg2 fullShare I.q ∗ owns (c : Thread nD τ) arg3 fullShare I.k ∗ owns (c : Thread nD τ) arg4 fullShare I.kt ∗ owns (c : Thread nD τ) arg5 fullShare I.v ∗ owns (c : Thread nD τ) arg6 fullShare I.d ∗ owns (c : Thread nD τ) arg7 fullShare I.l ∗ owns (c : Thread nD τ) arg8 fullShare I.e ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare I.q ∗ owns (c : Thread nD τ) arg3 fullShare I.k ∗ owns (c : Thread nD τ) arg4 fullShare I.kt ∗ owns (c : Thread nD τ) arg5 fullShare I.v ∗ owns (c : Thread nD τ) arg6 fullShare I.d ∗ owns (c : Thread nD τ) arg7 fullShare I.l ∗ owns (c : Thread nD τ) arg8 fullShare I.e ∗ owns (c : Thread nD τ) arg9 fullShare (last I i ⟨k0_pay16, k0_pay17, k0_pay18⟩).y ∗ owns (c : Thread nD τ) arg10 fullShare (k0_pay6 (last I i ⟨k0_pay16, k0_pay17, k0_pay18⟩).z) ∗ owns (c : Thread nD τ) arg11 fullShare (k0_pay7 (last I i ⟨k0_pay16, k0_pay17, k0_pay18⟩).w) ∗ (∃ d, owns (c : Thread nD τ) arg12 fullShare d) ∗ (∃ d, owns (c : Thread nD τ) arg13 fullShare d)) -∗ K ⟨⟩))
      ⊢ wp frame (wpE (defs₀ (F := F)) Variants.none c none) E (cc0_k5_bwd i arg2 harg2 arg3 harg3 arg4 harg4 arg5 harg5 arg6 harg6 arg7 harg7 arg8 harg8 arg9 harg9 arg10 harg10 arg11 harg11 arg12 harg12 arg13 harg13) K := by
    simp only [cc0_k5_bwd_eq_skeleton]; unfold cc0_k5_bwd_skel
    simp only [k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0)
    sl_step
    have hI : ⟨arg2.view.read (Elt F) (harg2.unread I.q), arg3.view.read (Elt F) (harg3.unread I.k), arg4.view.read (Elt F) (harg4.unread I.kt), arg5.view.read (Elt F) (harg5.unread I.v), arg6.view.read (Elt F) (harg6.unread I.d), arg7.view.read (Elt F) (harg7.unread I.l), arg8.view.read (Elt F) (harg8.unread I.e)⟩ = I := by rw [hf2, hf3, hf4, hf5, hf6, hf7, hf8]
    have e4 : (arg4.view.readAt (Elt F) (Rect.unit (s := S1x192x512) ![0, 0, 0] S1x192x512.size inb_S1x192x512_S1x192x512_0_0_0).toLoadRect (harg4.unread I.kt)) = arg4.view.read (Elt F) (harg4.unread I.kt) := View.readAt_full _ _ _
    have e3 : (arg3.view.readAt (Elt F) (Rect.unit (s := S1x512x192) ![0, 0, 0] S1x512x192.size inb_S1x512x192_S1x512x192_0_0_0).toLoadRect (harg3.unread I.k)) = arg3.view.read (Elt F) (harg3.unread I.k) := View.readAt_full _ _ _
    have e5 : (arg5.view.readAt (Elt F) (Rect.unit (s := S1x512x128) ![0, 0, 0] S1x512x128.size inb_S1x512x128_S1x512x128_0_0_0).toLoadRect (harg5.unread I.v)) = arg5.view.read (Elt F) (harg5.unread I.v) := View.readAt_full _ _ _
    have hlast := loop_last Variants.none c none i arg2 harg2 arg3 harg3 arg4 harg4 arg5 harg5 arg6 harg6 arg7 harg7 arg8 harg8 arg9 harg9 arg10 harg10 arg11 harg11 arg12 harg12 arg13 harg13 (Scalar.addi (BitVec.ofNat 32 (i 1).val) 1#32) (harg2.unread I.q) (harg3.unread I.k) (harg4.unread I.kt) (harg5.unread I.v) (harg6.unread I.d) (harg7.unread I.l) (harg8.unread I.e) (arg9.view.writes (Elt F) arg9.view.junk (⟨Rect.unit (s := S1x192x8192) (k0_off1 i) S1x192x512.size (k0_off1_inb i), k0_pay1 (run_A.sl.r_4 c i arg2 harg2 arg3 harg3 arg4 harg4 arg5 harg5 arg6 harg6 arg7 harg7 arg8 harg8 arg9 I)⟩ :: run_A.sl.H9_1)) (arg12.view.writes (Elt F) arg12.view.junk (run_A.sl.H12_2 c i arg2 harg2 arg3 harg3 arg5 harg5 arg6 harg6 arg7 harg7 arg8 harg8 arg12 I)) (arg13.view.writes (Elt F) arg13.view.junk (run_A.sl.H13_2 c i arg2 harg2 arg3 harg3 arg6 harg6 arg7 harg7 arg13 I)) I hI (first I i ⟨k0_pay16, k0_pay17, k0_pay18⟩)
      (by
        refine Eq.trans ?_ (congrArg (fun J => (first J i ⟨k0_pay16, k0_pay17, k0_pay18⟩).y) hI)
        delta run_A.sl.r_4
        refine (View.read_writes_cons_put _ _ _ _ _ rfl).trans ?_
        refine Eq.trans (b := (first ⟨arg2.view.read (Elt F) (harg2.unread I.q), arg3.view.read (Elt F) (harg3.unread I.k), arg4.view.read (Elt F) (harg4.unread I.kt), arg5.view.read (Elt F) (harg5.unread I.v), arg6.view.read (Elt F) (harg6.unread I.d), arg7.view.read (Elt F) (harg7.unread I.l), arg8.view.read (Elt F) (harg8.unread I.e)⟩ i ⟨arg9.view.read (Elt F) (arg9.view.writes (Elt F) arg9.view.junk run_A.sl.H9_1), k0_pay17, k0_pay18⟩).y) ?_ (by rw [show arg9.view.read (Elt F) (arg9.view.writes (Elt F) arg9.view.junk run_A.sl.H9_1) = k0_pay16 from View.read_writes_full _ _ _ _ _])
        delta run_A.sl.r_2 run_A.sl.r_3
        rw [e3, e4, e5]; rfl)
      (by
        refine Eq.trans ?_ (congrArg (fun J => (first J i ⟨k0_pay16, k0_pay17, k0_pay18⟩).z) hI)
        delta run_A.sl.H12_2 run_A.sl.r run_A.sl.r_2 run_A.sl.r_3
        refine (View.read_writes_full _ _ _ _ _).trans ?_
        rw [show run_A.sl.v52 c arg12 = k0_pay17 from View.readCov_full _ _ _ _ _, e3, e5]; rfl)
      (by
        refine Eq.trans ?_ (congrArg (fun J => (first J i ⟨k0_pay16, k0_pay17, k0_pay18⟩).w) hI)
        delta run_A.sl.H13_2 run_A.sl.r_1 run_A.sl.r_3
        refine (View.read_writes_full _ _ _ _ _).trans ?_
        rw [show run_A.sl.v45 c arg13 = k0_pay18 from View.readCov_full _ _ _ _ _, e3]; rfl)
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      rw [show Scf.trips (k0_t2_loop i).lb (k0_t2_loop i).ub (k0_t2_loop i).st = 0 from trips2 i]
      rw [pb_k0_t2.eq_1]
      refine (congrArg (arg9.view.read (Elt F)) ((congrArg _ (List.nil_append _)).trans (View.writes_append _ _ _ _))).trans ?_
      exact congrArg Acc.y hlast
    isplitl [H10]
    · iexists _; isplitr; swap; · iexact H10
      ipureintro
      refine (View.read_writes_full _ _ _ _ _).trans (congrArg k0_pay6 ?_)
      delta run_A.sl.v75
      rw [show Scf.trips (k0_t2_loop i).lb (k0_t2_loop i).ub (k0_t2_loop i).st = 0 from trips2 i]
      rw [pb_k0_t2.eq_1]
      refine (View.readAt_full _ _ _).trans ((congrArg (arg12.view.read (Elt F)) ((congrArg _ (List.nil_append _)).trans (View.writes_append _ _ _ _))).trans ?_)
      exact congrArg Acc.z hlast
    isplitl [H11]
    · iexists _; isplitr; swap; · iexact H11
      ipureintro
      refine (View.read_writes_full _ _ _ _ _).trans (congrArg k0_pay7 ?_)
      delta run_A.sl.v79
      rw [show Scf.trips (k0_t2_loop i).lb (k0_t2_loop i).ub (k0_t2_loop i).st = 0 from trips2 i]
      rw [pb_k0_t2.eq_1]
      refine (View.readAt_full _ _ _).trans ((congrArg (arg13.view.read (Elt F)) ((congrArg _ (List.nil_append _)).trans (View.writes_append _ _ _ _))).trans ?_)
      exact congrArg Acc.w hlast
    isplitl [H12]
    · iexists _, _; isplitr; swap; · iexact H12
      ipureintro; rfl
    iexists _, _; isplitr; swap; · iexact H13
    ipureintro; rfl

set_option maxHeartbeats 4000000 in
/-- The body at a later key block of a head, whose gradient of q holds `x7`. -/
theorem run_B (c : Dev nD) (i : grid0.Coords) (arg2 : Memref sig .tc .vmem S1x192x8192 .bf16) (harg2 : arg2.IsWhole)
    (arg3 : Memref sig .tc .vmem S1x512x192 .bf16) (harg3 : arg3.IsWhole)
    (arg4 : Memref sig .tc .vmem S1x192x512 .bf16) (harg4 : arg4.IsWhole)
    (arg5 : Memref sig .tc .vmem S1x512x128 .bf16) (harg5 : arg5.IsWhole)
    (arg6 : Memref sig .tc .vmem S128x8192 .bf16) (harg6 : arg6.IsWhole)
    (arg7 : Memref sig .tc .vmem S1x1x8192 .f32) (harg7 : arg7.IsWhole)
    (arg8 : Memref sig .tc .vmem S1x1x8192 .f32) (harg8 : arg8.IsWhole)
    (arg9 : Memref sig .tc .vmem S1x192x8192 .f32) (harg9 : arg9.IsWhole)
    (arg10 : Memref sig .tc .vmem S1x192x512 .f32) (harg10 : arg10.IsWhole)
    (arg11 : Memref sig .tc .vmem S1x128x512 .f32) (harg11 : arg11.IsWhole)
    (arg12 : Memref sig .tc .vmem S192x512 .f32) (harg12 : arg12.IsWhole)
    (arg13 : Memref sig .tc .vmem S128x512 .f32) (harg13 : arg13.IsWhole) (hc0 : ¬ cond0_0 i) (I : Ins F) (x7 : Vec F S1x192x8192 .f32) (E : Set ℕ) (K : PUnit → sProp 𝕄) :
    iprop(owns (c : Thread nD τ) arg2 fullShare I.q ∗ owns (c : Thread nD τ) arg3 fullShare I.k ∗ owns (c : Thread nD τ) arg4 fullShare I.kt ∗ owns (c : Thread nD τ) arg5 fullShare I.v ∗ owns (c : Thread nD τ) arg6 fullShare I.d ∗ owns (c : Thread nD τ) arg7 fullShare I.l ∗ owns (c : Thread nD τ) arg8 fullShare I.e ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare I.q ∗ owns (c : Thread nD τ) arg3 fullShare I.k ∗ owns (c : Thread nD τ) arg4 fullShare I.kt ∗ owns (c : Thread nD τ) arg5 fullShare I.v ∗ owns (c : Thread nD τ) arg6 fullShare I.d ∗ owns (c : Thread nD τ) arg7 fullShare I.l ∗ owns (c : Thread nD τ) arg8 fullShare I.e ∗ owns (c : Thread nD τ) arg9 fullShare (last I i ⟨x7, k0_pay17, k0_pay18⟩).y ∗ owns (c : Thread nD τ) arg10 fullShare (k0_pay6 (last I i ⟨x7, k0_pay17, k0_pay18⟩).z) ∗ owns (c : Thread nD τ) arg11 fullShare (k0_pay7 (last I i ⟨x7, k0_pay17, k0_pay18⟩).w) ∗ (∃ d, owns (c : Thread nD τ) arg12 fullShare d) ∗ (∃ d, owns (c : Thread nD τ) arg13 fullShare d)) -∗ K ⟨⟩))
      ⊢ wp frame (wpE (defs₀ (F := F)) Variants.none c none) E (cc0_k5_bwd i arg2 harg2 arg3 harg3 arg4 harg4 arg5 harg5 arg6 harg6 arg7 harg7 arg8 harg8 arg9 harg9 arg10 harg10 arg11 harg11 arg12 harg12 arg13 harg13) K := by
    simp only [cc0_k5_bwd_eq_skeleton]; unfold cc0_k5_bwd_skel
    simp only [k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0)
    sl_step
    have hI : ⟨arg2.view.read (Elt F) (harg2.unread I.q), arg3.view.read (Elt F) (harg3.unread I.k), arg4.view.read (Elt F) (harg4.unread I.kt), arg5.view.read (Elt F) (harg5.unread I.v), arg6.view.read (Elt F) (harg6.unread I.d), arg7.view.read (Elt F) (harg7.unread I.l), arg8.view.read (Elt F) (harg8.unread I.e)⟩ = I := by rw [hf2, hf3, hf4, hf5, hf6, hf7, hf8]
    have e4 : (arg4.view.readAt (Elt F) (Rect.unit (s := S1x192x512) ![0, 0, 0] S1x192x512.size inb_S1x192x512_S1x192x512_0_0_0).toLoadRect (harg4.unread I.kt)) = arg4.view.read (Elt F) (harg4.unread I.kt) := View.readAt_full _ _ _
    have e3 : (arg3.view.readAt (Elt F) (Rect.unit (s := S1x512x192) ![0, 0, 0] S1x512x192.size inb_S1x512x192_S1x512x192_0_0_0).toLoadRect (harg3.unread I.k)) = arg3.view.read (Elt F) (harg3.unread I.k) := View.readAt_full _ _ _
    have e5 : (arg5.view.readAt (Elt F) (Rect.unit (s := S1x512x128) ![0, 0, 0] S1x512x128.size inb_S1x512x128_S1x512x128_0_0_0).toLoadRect (harg5.unread I.v)) = arg5.view.read (Elt F) (harg5.unread I.v) := View.readAt_full _ _ _
    have hlast := loop_last Variants.none c none i arg2 harg2 arg3 harg3 arg4 harg4 arg5 harg5 arg6 harg6 arg7 harg7 arg8 harg8 arg9 harg9 arg10 harg10 arg11 harg11 arg12 harg12 arg13 harg13 (Scalar.addi (BitVec.ofNat 32 (i 1).val) 1#32) (harg2.unread I.q) (harg3.unread I.k) (harg4.unread I.kt) (harg5.unread I.v) (harg6.unread I.d) (harg7.unread I.l) (harg8.unread I.e) (arg9.view.writes (Elt F) f9 (⟨Rect.unit (s := S1x192x8192) (k0_off1 i) S1x192x512.size (k0_off1_inb i), k0_pay1 (run_B.sl.r_4 c i arg2 harg2 arg3 harg3 arg4 harg4 arg5 harg5 arg6 harg6 arg7 harg7 arg8 harg8 arg9 I f9)⟩ :: [])) (arg12.view.writes (Elt F) arg12.view.junk (run_B.sl.H12_2 c i arg2 harg2 arg3 harg3 arg5 harg5 arg6 harg6 arg7 harg7 arg8 harg8 arg12 I)) (arg13.view.writes (Elt F) arg13.view.junk (run_B.sl.H13_2 c i arg2 harg2 arg3 harg3 arg6 harg6 arg7 harg7 arg13 I)) I hI (first I i ⟨x7, k0_pay17, k0_pay18⟩)
      (by
        refine Eq.trans ?_ (congrArg (fun J => (first J i ⟨x7, k0_pay17, k0_pay18⟩).y) hI)
        delta run_B.sl.r_4
        refine (View.read_writes_cons_put _ _ _ _ _ rfl).trans ?_
        refine Eq.trans (b := (first ⟨arg2.view.read (Elt F) (harg2.unread I.q), arg3.view.read (Elt F) (harg3.unread I.k), arg4.view.read (Elt F) (harg4.unread I.kt), arg5.view.read (Elt F) (harg5.unread I.v), arg6.view.read (Elt F) (harg6.unread I.d), arg7.view.read (Elt F) (harg7.unread I.l), arg8.view.read (Elt F) (harg8.unread I.e)⟩ i ⟨arg9.view.read (Elt F) (arg9.view.writes (Elt F) f9 []), k0_pay17, k0_pay18⟩).y) ?_ (by rw [← hf9]; rfl)
        delta run_B.sl.r_2 run_B.sl.r_3
        rw [e3, e4, e5]; rfl)
      (by
        refine Eq.trans ?_ (congrArg (fun J => (first J i ⟨x7, k0_pay17, k0_pay18⟩).z) hI)
        delta run_B.sl.H12_2 run_B.sl.r run_B.sl.r_2 run_B.sl.r_3
        refine (View.read_writes_full _ _ _ _ _).trans ?_
        rw [show run_B.sl.v52 c arg12 = k0_pay17 from View.readCov_full _ _ _ _ _, e3, e5]; rfl)
      (by
        refine Eq.trans ?_ (congrArg (fun J => (first J i ⟨x7, k0_pay17, k0_pay18⟩).w) hI)
        delta run_B.sl.H13_2 run_B.sl.r_1 run_B.sl.r_3
        refine (View.read_writes_full _ _ _ _ _).trans ?_
        rw [show run_B.sl.v45 c arg13 = k0_pay18 from View.readCov_full _ _ _ _ _, e3]; rfl)
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      rw [show Scf.trips (k0_t2_loop i).lb (k0_t2_loop i).ub (k0_t2_loop i).st = 0 from trips2 i]
      rw [pb_k0_t2.eq_1]
      refine (congrArg (arg9.view.read (Elt F)) ((congrArg _ (List.nil_append _)).trans (View.writes_append _ _ _ _))).trans ?_
      exact congrArg Acc.y hlast
    isplitl [H10]
    · iexists _; isplitr; swap; · iexact H10
      ipureintro
      refine (View.read_writes_full _ _ _ _ _).trans (congrArg k0_pay6 ?_)
      delta run_B.sl.v75
      rw [show Scf.trips (k0_t2_loop i).lb (k0_t2_loop i).ub (k0_t2_loop i).st = 0 from trips2 i]
      rw [pb_k0_t2.eq_1]
      refine (View.readAt_full _ _ _).trans ((congrArg (arg12.view.read (Elt F)) ((congrArg _ (List.nil_append _)).trans (View.writes_append _ _ _ _))).trans ?_)
      exact congrArg Acc.z hlast
    isplitl [H11]
    · iexists _; isplitr; swap; · iexact H11
      ipureintro
      refine (View.read_writes_full _ _ _ _ _).trans (congrArg k0_pay7 ?_)
      delta run_B.sl.v79
      rw [show Scf.trips (k0_t2_loop i).lb (k0_t2_loop i).ub (k0_t2_loop i).st = 0 from trips2 i]
      rw [pb_k0_t2.eq_1]
      refine (View.readAt_full _ _ _).trans ((congrArg (arg13.view.read (Elt F)) ((congrArg _ (List.nil_append _)).trans (View.writes_append _ _ _ _))).trans ?_)
      exact congrArg Acc.w hlast
    isplitl [H12]
    · iexists _, _; isplitr; swap; · iexact H12
      ipureintro; rfl
    iexists _, _; isplitr; swap; · iexact H13
    ipureintro; rfl

end Cert.BwdIdeal.Block

end
-- ==== Proof.BwdTile.lean ====
/-
  The body's steps at an index, at the ideal instance: every window reads its columns of the whole, a step adds one
  block of the masked sums, and the loop adds them all.
-/
module

public import proofs.«01_k».proof.Proof.BwdRun
public import Idealize.ShloMosaic.Lib.Pointwise
public import Idealize.ShloMosaic.Lib.IdealHost

@[expose] public section

set_option maxRecDepth 65536

noncomputable section

namespace Cert.BwdIdeal.Block

open Idealize.ShloMosaic Idealize.ShloMosaic.TcCoe Idealize.ShloMosaic.Tactic Cert.BwdIdeal.Gen
open VecWindow (window put)

/-! ## Offsets -/

theorem off1_eq (i : grid0.Coords) : k0_off1 i = ![0, 0, 512 * (i 1).val] :=
  congrArg (fun n : ℕ => ![0, 0, n]) ((by decide +kernel : ∀ j : Fin 16,
    (Scalar.indexCast (Scalar.muli (BitVec.ofNat 32 j.val) 512#32)).toNat = 512 * j.val) (i 1))

theorem off2_eq (i : grid0.Coords) : k0_off2 i = ![0, 512 * (i 1).val] :=
  congrArg (fun n : ℕ => ![0, n]) ((by decide +kernel : ∀ j : Fin 16,
    (Scalar.indexCast (Scalar.muli (BitVec.ofNat 32 j.val) 512#32)).toNat = 512 * j.val) (i 1))

theorem off3_eq (i : grid0.Coords) : k0_off3 i = ![0, 0, 512 * (i 1).val] := off1_eq i

theorem j_lt (i : grid0.Coords) : (i 1).val < 16 := (i 1).isLt

theorem trips1 (i : grid0.Coords) : (k0_t1_loop i).trips = 15 - (i 1).val :=
  (by decide +kernel : ∀ j : Fin 16, Scf.trips (Scalar.addi (BitVec.ofNat 32 j.val) 1#32)
    (Scalar.addi (Scalar.addi (BitVec.ofNat 32 j.val) 1#32) (Scalar.muli (Scalar.divsi (Scalar.subi 16#32
      (Scalar.addi (BitVec.ofNat 32 j.val) 1#32)) 1#32) 1#32)) 1#32 = 15 - j.val) (i 1)

theorem iv_eq : ∀ j n : Fin 16, n.val < 15 - j.val →
    (Scalar.indexCast (Scalar.muli (Scf.iv (Scalar.addi (BitVec.ofNat 32 j.val) 1#32) 1#32 n.val) 512#32)).toNat
      = 512 * (j.val + 1 + n.val) := by decide +kernel

theorem n_lt (i : grid0.Coords) (n : Fin (k0_t1_loop i).trips) : n.val < 15 - (i 1).val := (trips1 i) ▸ n.isLt

theorem off4_eq (i : grid0.Coords) (n : Fin (k0_t1_loop i).trips) : k0_off4 i n = ![0, 0, 512 * ((i 1).val + 1 + n.val)] :=
  congrArg (fun n : ℕ => ![0, 0, n]) (iv_eq (i 1) ⟨n.val, by have := n_lt i n; omega⟩ (n_lt i n))

theorem off5_eq (i : grid0.Coords) (n : Fin (k0_t1_loop i).trips) : k0_off5 i n = ![0, 512 * ((i 1).val + 1 + n.val)] :=
  congrArg (fun n : ℕ => ![0, n]) (iv_eq (i 1) ⟨n.val, by have := n_lt i n; omega⟩ (n_lt i n))

theorem off6_eq (i : grid0.Coords) (n : Fin (k0_t1_loop i).trips) : k0_off6 i n = ![0, 0, 512 * ((i 1).val + 1 + n.val)] :=
  off4_eq i n

/-! ## Windows -/

/-- Column `q` of the block of 512 columns that starts at `a`. -/
abbrev col (a : ℕ) (ha : a + 512 ≤ 8192) (q : Fin 512) : Fin 8192 := ⟨a + q.val, by omega⟩

theorem window192 {α : Type} (x : S1x192x8192.Idx → α) (off : Fin 3 → ℕ) (inb : ∀ a, off a + S1x192x512.size a ≤ S1x192x8192.size a)
    (a : ℕ) (ha : a + 512 ≤ 8192) (e : off = ![0, 0, a]) (u : Fin 1) (d : Fin 192) (q : Fin 512) :
    window x off S1x192x512.size inb (ix3 u d q) = x (ix3 0 d (col a ha q)) := by
  subst e
  refine congrArg x (funext fun b => ?_)
  match b with
  | ⟨0, _⟩ => exact Fin.ext (by show 0 + 1 * u.val = 0; omega)
  | ⟨1, _⟩ => exact Fin.ext (by show 0 + 1 * d.val = d.val; omega)
  | ⟨2, _⟩ => exact Fin.ext (by show a + 1 * q.val = a + q.val; omega)

theorem window1 {α : Type} (x : S1x1x8192.Idx → α) (off : Fin 3 → ℕ) (inb : ∀ a, off a + S1x1x512.size a ≤ S1x1x8192.size a)
    (a : ℕ) (ha : a + 512 ≤ 8192) (e : off = ![0, 0, a]) (u v : Fin 1) (q : Fin 512) :
    window x off S1x1x512.size inb (ix3 u v q) = x (ix3 0 0 (col a ha q)) := by
  subst e
  refine congrArg x (funext fun b => ?_)
  match b with
  | ⟨0, _⟩ => exact Fin.ext (by show 0 + 1 * u.val = 0; omega)
  | ⟨1, _⟩ => exact Fin.ext (by show 0 + 1 * v.val = 0; omega)
  | ⟨2, _⟩ => exact Fin.ext (by show a + 1 * q.val = a + q.val; omega)

theorem window128 {α : Type} (x : S128x8192.Idx → α) (off : Fin 2 → ℕ) (inb : ∀ a, off a + S128x512.size a ≤ S128x8192.size a)
    (a : ℕ) (ha : a + 512 ≤ 8192) (e : off = ![0, a]) (d : Fin 128) (q : Fin 512) :
    window x off S128x512.size inb (ix2 d q) = x (ix2 d (col a ha q)) := by
  subst e
  refine congrArg x (funext fun b => ?_)
  match b with
  | ⟨0, _⟩ => exact Fin.ext (by show 0 + 1 * d.val = d.val; omega)
  | ⟨1, _⟩ => exact Fin.ext (by show a + 1 * q.val = a + q.val; omega)

/-- A put of columns read back: inside the columns the new value, outside the old. -/
theorem put192 {α : Type} (x : S1x192x8192.Idx → α) (off : Fin 3 → ℕ) (a : ℕ) (e : off = ![0, 0, a])
    (w : S1x192x512.Idx → α) (d : Fin 192) (q : Fin 8192) :
    put x off S1x192x512.size w (ix3 0 d q)
      = if h : a ≤ q.val ∧ q.val < a + 512 then w (ix3 0 d ⟨q.val - a, by omega⟩) else x (ix3 0 d q) := by
  subst e
  unfold put
  by_cases h : a ≤ q.val ∧ q.val < a + 512
  · have h' : ∀ b : Fin 3, (![0, 0, a] : Fin 3 → ℕ) b ≤ ((ix3 (0 : Fin 1) d q) b).val
        ∧ ((ix3 (0 : Fin 1) d q) b).val < (![0, 0, a] : Fin 3 → ℕ) b + S1x192x512.size b := fun b => by
      match b with
      | ⟨0, _⟩ => exact ⟨Nat.le_refl 0, by show 0 < 0 + 1; omega⟩
      | ⟨1, _⟩ => exact ⟨Nat.zero_le _, by show d.val < 0 + 192; omega⟩
      | ⟨2, _⟩ => exact h
    rw [dif_pos h, dif_pos h']
    refine congrArg w (funext fun b => ?_)
    match b with
    | ⟨0, _⟩ => exact Fin.ext (by show 0 - 0 = 0; omega)
    | ⟨1, _⟩ => exact Fin.ext (by show d.val - 0 = d.val; omega)
    | ⟨2, _⟩ => exact Fin.ext rfl
  · rw [dif_neg h, dif_neg fun hall => h (hall (2 : Fin 3))]

/-! ## Payloads -/

/-- A choice by a comparison of two counters. -/
theorem select_sle {α : Type} (a b : ℕ) (ha : a < 2 ^ (32 - 1)) (hb : b < 2 ^ (32 - 1)) (x y : α) :
    Scalar.select (IntOp.cmpi .sle (BitVec.ofNat 32 a) (BitVec.ofNat 32 b)) x y = if a ≤ b then x else y := by
  show (if IntOp.cmpi .sle (BitVec.ofNat 32 a) (BitVec.ofNat 32 b) = 1#1 then x else y) = _
  by_cases h : a ≤ b
  · rw [if_pos h, if_pos ((WordCmp.cmpi_sle_ofNat_eq_one_iff ha hb).mpr h)]
  · rw [if_neg h, if_neg fun e => h ((WordCmp.cmpi_sle_ofNat_eq_one_iff ha hb).mp e)]

/-- The factor of the scores, -/
abbrev scale : EReal := ((58612965992495 / 562949953421312 : ℝ) : EReal)
/-- and that of their gradient. -/
abbrev sm : EReal := Ideal.ofBits .f32 0x3D93CD3A#32

theorem scale_eq : Named.named (F := Ideal) (φ := .f32) κ "score_scale" 0x3DD53B94#32 = scale :=
  IdealRules.named_const.ideal_named_scalar _ _ _ _ rfl

theorem pay8_apply (x : Vec Ideal S1x192x512 .bf16) (d : Fin 192) (q : Fin 512) : k0_pay8 x (ix2 d q) = x (ix3 0 d q) := by
  pointwise [k0_pay8]
theorem pay19_apply (x : Vec Ideal S1x192x512 .bf16) (d : Fin 192) (q : Fin 512) : k0_pay19 x (ix2 d q) = x (ix3 0 d q) := by
  pointwise [k0_pay19]

theorem pay21_apply (x : Vec Ideal S1x192x512 .bf16) (k : Vec Ideal S1x512x192 .bf16) (l : Vec Ideal S1x1x512 .f32) (r q : Fin 512) :
    k0_pay21 x k l (ix2 r q) = Ideal.exp2 ((∑ d : Fin 192, k (ix3 0 r d) * x (ix3 0 d q)) * scale - l (ix3 0 0 q)) := by
  rw [← scale_eq]; pointwise [k0_pay21, k0_pay19]; rfl

theorem pay9_apply (x : Vec Ideal S1x192x512 .bf16) (k : Vec Ideal S1x512x192 .bf16) (l : Vec Ideal S1x1x512 .f32) (r q : Fin 512) :
    k0_pay9 x k l (ix2 r q) = Ideal.exp2 ((∑ d : Fin 192, k (ix3 0 r d) * x (ix3 0 d q)) * scale - l (ix3 0 0 q)) := by
  rw [← scale_eq]; pointwise [k0_pay9, k0_pay8]; rfl

theorem pay20_apply (d : Vec Ideal S128x512 .bf16) (v : Vec Ideal S1x512x128 .bf16) (r q : Fin 512) :
    k0_pay20 d v (ix2 r q) = ∑ e : Fin 128, v (ix3 0 r e) * d (ix2 e q) := by
  pointwise [k0_pay20]

theorem pay10_apply (x : Vec Ideal S1x192x512 .bf16) (d : Vec Ideal S128x512 .bf16) (k : Vec Ideal S1x512x192 .bf16)
    (v : Vec Ideal S1x512x128 .bf16) (l e : Vec Ideal S1x1x512 .f32) (r q : Fin 512) :
    k0_pay10 x d k v l e (ix2 r q)
      = (k0_pay9 x k l (ix2 r q) * ((∑ b : Fin 128, v (ix3 0 r b) * d (ix2 b q)) - e (ix3 0 0 q))) * sm := by
  pointwise [k0_pay10]

theorem pay22_apply (p : FVec Ideal S512x512 .f32) (r q : Fin 512) :
    k0_pay22 p rows (ix2 r q) = if r.val ≤ q.val then p (ix2 r q) else 0 := by
  pointwise [k0_pay22, rows]
  exact select_sle r.val q.val (by omega) (by omega) _ _

theorem pay23_apply (dp p : FVec Ideal S512x512 .f32) (e : Vec Ideal S1x1x512 .f32) (r q : Fin 512) :
    k0_pay23 dp p rows e (ix2 r q) = (k0_pay22 p rows (ix2 r q) * (dp (ix2 r q) - e (ix3 0 0 q))) * sm := by
  pointwise [k0_pay23]

theorem pay3_apply (g : FVec Ideal S512x512 .bf16) (y : Vec Ideal S1x192x512 .f32) (kt : Vec Ideal S1x192x512 .bf16) (d : Fin 192) (q : Fin 512) :
    k0_pay3 g y kt (ix3 0 d q) = y (ix3 0 d q) + ∑ r : Fin 512, kt (ix3 0 d r) * g (ix2 r q) := by
  pointwise [k0_pay3]

theorem pay2_apply (x : FVec Ideal S192x512 .bf16) (g : FVec Ideal S512x512 .bf16) (z : Vec Ideal S192x512 .f32) (d : Fin 192) (r : Fin 512) :
    k0_pay2 x g z (ix2 d r) = z (ix2 d r) + ∑ q : Fin 512, x (ix2 d q) * g (ix2 r q) := by
  pointwise [k0_pay2]

theorem pay11_apply (x : Vec Ideal S1x192x512 .bf16) (d : Vec Ideal S128x512 .bf16) (k : Vec Ideal S1x512x192 .bf16)
    (l : Vec Ideal S1x1x512 .f32) (w : Vec Ideal S128x512 .f32) (e : Fin 128) (r : Fin 512) :
    k0_pay11 x d k l w (ix2 e r) = w (ix2 e r) + ∑ q : Fin 512, d (ix2 e q) * k0_pay9 x k l (ix2 r q) := by
  pointwise [k0_pay11]

theorem pay26_apply (dp p : FVec Ideal S512x512 .f32) (e : Vec Ideal S1x1x512 .f32) (y : Vec Ideal S1x192x512 .f32)
    (kt : Vec Ideal S1x192x512 .bf16) (d : Fin 192) (q : Fin 512) :
    k0_pay1 (k0_pay26 dp p rows e y kt) (ix3 0 d q)
      = y (ix3 0 d q) + ∑ r : Fin 512, kt (ix3 0 d r) * k0_pay23 dp p rows e (ix2 r q) := by
  pointwise [k0_pay1, k0_pay26]

theorem pay25_apply (x : FVec Ideal S192x512 .bf16) (dp p : FVec Ideal S512x512 .f32) (e : Vec Ideal S1x1x512 .f32)
    (z : Vec Ideal S192x512 .f32) (d : Fin 192) (r : Fin 512) :
    k0_pay25 x dp p rows e z (ix2 d r)
      = z (ix2 d r) + ∑ q : Fin 512, x (ix2 d q) * k0_pay23 dp p rows e (ix2 r q) := by
  pointwise [k0_pay25]

theorem pay24_apply (d : Vec Ideal S128x512 .bf16) (p : FVec Ideal S512x512 .f32) (w : Vec Ideal S128x512 .f32) (e : Fin 128) (r : Fin 512) :
    k0_pay24 d p rows w (ix2 e r) = w (ix2 e r) + ∑ q : Fin 512, d (ix2 e q) * k0_pay22 p rows (ix2 r q) := by
  pointwise [k0_pay24]

theorem pay6_apply (z : Vec Ideal S192x512 .f32) (d : Fin 192) (q : Fin 512) : k0_pay6 z (ix3 0 d q) = z (ix2 d q) := by
  pointwise [k0_pay6]
theorem pay7_apply (z : Vec Ideal S128x512 .f32) (d : Fin 128) (q : Fin 512) : k0_pay7 z (ix3 0 d q) = z (ix2 d q) := by
  pointwise [k0_pay7]
theorem pay16_apply (d : Fin 192) (q : Fin 8192) : (k0_pay16 (F := Ideal)) (ix3 0 d q) = 0 := by
  pointwise [k0_pay16]
theorem pay17_apply (d : Fin 192) (q : Fin 512) : (k0_pay17 (F := Ideal)) (ix2 d q) = 0 := by
  pointwise [k0_pay17]
theorem pay18_apply (d : Fin 128) (q : Fin 512) : (k0_pay18 (F := Ideal)) (ix2 d q) = 0 := by
  pointwise [k0_pay18]

end Cert.BwdIdeal.Block

end
-- ==== Proof.BwdSum.lean ====
/-
  The accumulators after a point's loop, at the ideal instance: each is what it was plus the masked sum over the whole
  row, since the blocks the loop leaves out are masked to zero.
-/
module

public import proofs.«01_k».proof.Proof.BwdTile

@[expose] public section

set_option maxRecDepth 65536

noncomputable section

namespace Cert.BwdIdeal.Block

open Idealize.ShloMosaic Idealize.ShloMosaic.TcCoe Idealize.ShloMosaic.Tactic Cert.BwdIdeal.Gen
open VecWindow (window put)

/-! ## Sums over columns -/

/-- A sum over a block of columns is a sum over all with the others at zero. -/
theorem sum_block (f : Fin 8192 → EReal) (a : ℕ) (ha : a + 512 ≤ 8192) :
    ∑ q : Fin 512, f (col a ha q) = ∑ x : Fin 8192, if a ≤ x.val ∧ x.val < a + 512 then f x else 0 := by
  rw [← Finset.sum_filter]
  refine Finset.sum_bij (fun q _ => col a ha q) (fun q _ => ?_) (fun q _ q' _ e => ?_) (fun x hx => ?_) fun _ _ => rfl
  · rw [Finset.mem_filter]; exact ⟨Finset.mem_univ _, by show a ≤ a + q.val; omega, by show a + q.val < a + 512; omega⟩
  · have := congrArg Fin.val e; exact Fin.ext (by change a + q.val = a + q'.val at this; omega)
  · have h := (Finset.mem_filter.mp hx).2
    exact ⟨⟨x.val - a, by omega⟩, Finset.mem_univ _, Fin.ext (by show a + (x.val - a) = x.val; omega)⟩

/-- Two neighbouring ranges of columns make one. -/
theorem sum_join (f : Fin 8192 → EReal) (a b c : ℕ) (hab : a ≤ b) (hbc : b ≤ c) :
    (∑ x : Fin 8192, if a ≤ x.val ∧ x.val < b then f x else 0) + (∑ x : Fin 8192, if b ≤ x.val ∧ x.val < c then f x else 0)
      = ∑ x : Fin 8192, if a ≤ x.val ∧ x.val < c then f x else 0 := by
  rw [← Finset.sum_add_distrib]
  refine Finset.sum_congr rfl fun x _ => ?_
  by_cases h1 : a ≤ x.val ∧ x.val < b
  · rw [if_pos h1, if_neg (by omega), if_pos (by omega), add_zero]
  · by_cases h2 : b ≤ x.val ∧ x.val < c
    · rw [if_neg h1, if_pos h2, if_pos (by omega), zero_add]
    · rw [if_neg h1, if_neg h2, if_neg (by omega), add_zero]

/-- A range that reaches the end and leaves out zeros only is the whole sum. -/
theorem sum_tail (f : Fin 8192 → EReal) (a b : ℕ) (hb : 8192 ≤ b) (h : ∀ x : Fin 8192, x.val < a → f x = 0) :
    (∑ x : Fin 8192, if a ≤ x.val ∧ x.val < b then f x else 0) = ∑ x : Fin 8192, f x := by
  refine Finset.sum_congr rfl fun x _ => ?_
  by_cases h1 : a ≤ x.val
  · rw [if_pos ⟨h1, by omega⟩]
  · rw [if_neg fun hh => h1 hh.1, h x (by omega)]

/-! ## The masked tile -/

/-- The masked exponential of the score of key row `r` of block `j` with query `q`, -/
def pm (I : Ins Ideal) (j : ℕ) (r : Fin 512) (q : Fin 8192) : EReal :=
  if 512 * j + r.val ≤ q.val then
    Ideal.exp2 ((∑ d : Fin 192, I.k (ix3 0 r d) * I.q (ix3 0 d q)) * scale - I.l (ix3 0 0 q)) else 0

/-- and the gradient of that score. -/
def dsm (I : Ins Ideal) (j : ℕ) (r : Fin 512) (q : Fin 8192) : EReal :=
  (pm I j r q * ((∑ e : Fin 128, I.v (ix3 0 r e) * I.d (ix2 e q)) - I.e (ix3 0 0 q))) * sm

theorem pm_zero (I : Ins Ideal) (j : ℕ) (r : Fin 512) (q : Fin 8192) (h : q.val < 512 * j) : pm I j r q = 0 :=
  if_neg (by omega)

theorem dsm_zero (I : Ins Ideal) (j : ℕ) (r : Fin 512) (q : Fin 8192) (h : q.val < 512 * j) : dsm I j r q = 0 := by
  unfold dsm; rw [pm_zero I j r q h, zero_mul, zero_mul]

variable (I : Ins Ideal) (i : grid0.Coords)

theorem ha1 : 512 * (i 1).val + 512 ≤ 8192 := by have := j_lt i; omega
theorem ha4 (n : Fin (k0_t1_loop i).trips) : 512 * ((i 1).val + 1 + n.val) + 512 ≤ 8192 := by
  have := n_lt i n; omega

theorem p_apply (n : Fin (k0_t1_loop i).trips) (r q : Fin 512) :
    k0_pay9 (window I.q (k0_off4 i n) S1x192x512.size (k0_off4_inb i n)) I.k
      (window I.l (k0_off6 i n) S1x1x512.size (k0_off6_inb i n)) (ix2 r q)
      = pm I (i 1).val r (col _ (ha4 i n) q) := by
  rw [pay9_apply, window1 _ _ _ _ (ha4 i n) (off6_eq i n)]
  simp only [window192 _ _ _ _ (ha4 i n) (off4_eq i n)]
  exact (if_pos (by show 512 * (i 1).val + r.val ≤ 512 * ((i 1).val + 1 + n.val) + q.val; omega)).symm

theorem ds_apply (n : Fin (k0_t1_loop i).trips) (r q : Fin 512) :
    dsOf I i n (ix2 r q) = dsm I (i 1).val r (col _ (ha4 i n) q) := by
  unfold dsOf dsm
  rw [pay10_apply, p_apply, window1 _ _ _ _ (ha4 i n) (off6_eq i n)]
  simp only [window128 _ _ _ _ (ha4 i n) (off5_eq i n)]

theorem p0_apply (r q : Fin 512) : k0_pay22 (pOf I i) rows (ix2 r q) = pm I (i 1).val r (col _ (ha1 i) q) := by
  rw [pay22_apply]
  unfold pOf pm
  rw [pay21_apply, window1 _ _ _ _ (ha1 i) (off3_eq i)]
  simp only [window192 _ _ _ _ (ha1 i) (off1_eq i)]
  by_cases h : r.val ≤ q.val
  · rw [if_pos h, if_pos (by show 512 * (i 1).val + r.val ≤ 512 * (i 1).val + q.val; omega)]
  · rw [if_neg h, if_neg (by show ¬ 512 * (i 1).val + r.val ≤ 512 * (i 1).val + q.val; omega)]

theorem ds0_apply (r q : Fin 512) :
    k0_pay23 (dpOf I i) (pOf I i) rows (window I.e (k0_off3 i) S1x1x512.size (k0_off3_inb i)) (ix2 r q)
      = dsm I (i 1).val r (col _ (ha1 i) q) := by
  rw [pay23_apply, p0_apply, window1 _ _ _ _ (ha1 i) (off3_eq i)]
  unfold dsm dpOf
  rw [pay20_apply]
  simp only [window128 _ _ _ _ (ha1 i) (off2_eq i)]

/-! ## The first step and the trips -/

/-- What the columns of one block add to the gradient of q. -/
abbrev dy (d : Fin 192) (q : Fin 8192) : EReal := ∑ r : Fin 512, I.kt (ix3 0 d r) * dsm I (i 1).val r q
abbrev dz (d : Fin 192) (r : Fin 512) (q : Fin 8192) : EReal := I.q (ix3 0 d q) * dsm I (i 1).val r q
abbrev dw (e : Fin 128) (r : Fin 512) (q : Fin 8192) : EReal := I.d (ix2 e q) * pm I (i 1).val r q

theorem first_y (s : Acc Ideal) (d : Fin 192) (q : Fin 8192) :
    (first I i s).y (ix3 0 d q) = s.y (ix3 0 d q)
      + if 512 * (i 1).val ≤ q.val ∧ q.val < 512 * (i 1).val + 512 then dy I i d q else 0 := by
  refine (put192 _ _ _ (off1_eq i) _ _ _).trans ?_
  by_cases h : 512 * (i 1).val ≤ q.val ∧ q.val < 512 * (i 1).val + 512
  · have e : col _ (ha1 i) ⟨q.val - 512 * (i 1).val, by omega⟩ = q := Fin.ext (by show 512 * (i 1).val + (q.val - 512 * (i 1).val) = q.val; omega)
    rw [dif_pos h, if_pos h]
    refine (pay26_apply _ _ _ _ _ _ _).trans (congrArg₂ _ ?_ (Finset.sum_congr rfl fun r _ => ?_))
    · rw [window192 _ _ _ _ (ha1 i) (off1_eq i), e]
    · rw [ds0_apply, e]
  · rw [dif_neg h, if_neg h, add_zero]

theorem trip_y (n : Fin (k0_t1_loop i).trips) (s : Acc Ideal) (d : Fin 192) (q : Fin 8192) :
    (trip I i n s).y (ix3 0 d q) = s.y (ix3 0 d q)
      + if 512 * ((i 1).val + 1 + n.val) ≤ q.val ∧ q.val < 512 * ((i 1).val + 1 + n.val) + 512 then dy I i d q else 0 := by
  refine (put192 _ _ _ (off4_eq i n) _ _ _).trans ?_
  by_cases h : 512 * ((i 1).val + 1 + n.val) ≤ q.val ∧ q.val < 512 * ((i 1).val + 1 + n.val) + 512
  · have e : col _ (ha4 i n) ⟨q.val - 512 * ((i 1).val + 1 + n.val), by omega⟩ = q :=
      Fin.ext (by show 512 * ((i 1).val + 1 + n.val) + (q.val - 512 * ((i 1).val + 1 + n.val)) = q.val; omega)
    rw [dif_pos h, if_pos h]
    refine (pay3_apply _ _ _ _ _).trans (congrArg₂ _ ?_ (Finset.sum_congr rfl fun r _ => ?_))
    · rw [window192 _ _ _ _ (ha4 i n) (off4_eq i n), e]
    · rw [ds_apply, e]
  · rw [dif_neg h, if_neg h, add_zero]

theorem first_z (s : Acc Ideal) (d : Fin 192) (r : Fin 512) :
    (first I i s).z (ix2 d r) = s.z (ix2 d r)
      + ∑ x : Fin 8192, if 512 * (i 1).val ≤ x.val ∧ x.val < 512 * (i 1).val + 512 then dz I i d r x else 0 := by
  rw [← sum_block _ _ (ha1 i)]
  refine (pay25_apply _ _ _ _ _ _ _).trans (congrArg₂ _ rfl (Finset.sum_congr rfl fun q _ => ?_))
  rw [pay19_apply, window192 _ _ _ _ (ha1 i) (off1_eq i), ds0_apply]

theorem trip_z (n : Fin (k0_t1_loop i).trips) (s : Acc Ideal) (d : Fin 192) (r : Fin 512) :
    (trip I i n s).z (ix2 d r) = s.z (ix2 d r)
      + ∑ x : Fin 8192, if 512 * ((i 1).val + 1 + n.val) ≤ x.val ∧ x.val < 512 * ((i 1).val + 1 + n.val) + 512 then dz I i d r x else 0 := by
  rw [← sum_block _ _ (ha4 i n)]
  refine (pay2_apply _ _ _ _ _).trans (congrArg₂ _ rfl (Finset.sum_congr rfl fun q _ => ?_))
  rw [pay8_apply, window192 _ _ _ _ (ha4 i n) (off4_eq i n), ds_apply]

theorem first_w (s : Acc Ideal) (e : Fin 128) (r : Fin 512) :
    (first I i s).w (ix2 e r) = s.w (ix2 e r)
      + ∑ x : Fin 8192, if 512 * (i 1).val ≤ x.val ∧ x.val < 512 * (i 1).val + 512 then dw I i e r x else 0 := by
  rw [← sum_block _ _ (ha1 i)]
  refine (pay24_apply _ _ _ _ _).trans (congrArg₂ _ rfl (Finset.sum_congr rfl fun q _ => ?_))
  rw [window128 _ _ _ _ (ha1 i) (off2_eq i), p0_apply]

theorem trip_w (n : Fin (k0_t1_loop i).trips) (s : Acc Ideal) (e : Fin 128) (r : Fin 512) :
    (trip I i n s).w (ix2 e r) = s.w (ix2 e r)
      + ∑ x : Fin 8192, if 512 * ((i 1).val + 1 + n.val) ≤ x.val ∧ x.val < 512 * ((i 1).val + 1 + n.val) + 512 then dw I i e r x else 0 := by
  rw [← sum_block _ _ (ha4 i n)]
  refine (pay11_apply _ _ _ _ _ _ _).trans (congrArg₂ _ rfl (Finset.sum_congr rfl fun q _ => ?_))
  rw [window128 _ _ _ _ (ha4 i n) (off5_eq i n), p_apply]

/-! ## The loop -/

theorem walk_succ (s : Acc Ideal) (n : ℕ) (h : n < (k0_t1_loop i).trips) :
    walk I i s (n + 1) = trip I i ⟨n, h⟩ (walk I i s n) := dif_pos h

theorem walk_y (s : Acc Ideal) (d : Fin 192) (q : Fin 8192) : ∀ n : ℕ, n ≤ (k0_t1_loop i).trips →
    (walk I i s n).y (ix3 0 d q) = s.y (ix3 0 d q)
      + if 512 * ((i 1).val + 1) ≤ q.val ∧ q.val < 512 * ((i 1).val + 1 + n) then dy I i d q else 0
  | 0, _ => by rw [if_neg (by omega), add_zero]; rfl
  | n + 1, h => by
    rw [walk_succ I i s n h, trip_y, walk_y s d q n (by omega), add_assoc]
    congr 1
    dsimp only
    by_cases h1 : 512 * ((i 1).val + 1) ≤ q.val ∧ q.val < 512 * ((i 1).val + 1 + n)
    · rw [if_pos h1, if_neg (by omega), if_pos (by omega), add_zero]
    · by_cases h2 : 512 * ((i 1).val + 1 + n) ≤ q.val ∧ q.val < 512 * ((i 1).val + 1 + n) + 512
      · rw [if_neg h1, if_pos h2, if_pos (by omega), zero_add]
      · rw [if_neg h1, if_neg h2, if_neg (by omega), add_zero]

theorem walk_z (s : Acc Ideal) (d : Fin 192) (r : Fin 512) : ∀ n : ℕ, n ≤ (k0_t1_loop i).trips →
    (walk I i s n).z (ix2 d r) = s.z (ix2 d r)
      + ∑ x : Fin 8192, if 512 * ((i 1).val + 1) ≤ x.val ∧ x.val < 512 * ((i 1).val + 1 + n) then dz I i d r x else 0
  | 0, _ => by rw [Finset.sum_eq_zero (fun x _ => if_neg (by omega)), add_zero]; rfl
  | n + 1, h => by
    rw [walk_succ I i s n h, trip_z, walk_z s d r n (by omega), add_assoc]
    exact congrArg _ (sum_join (dz I i d r) (512 * ((i 1).val + 1)) (512 * ((i 1).val + 1 + n))
      (512 * ((i 1).val + 1 + n) + 512) (by omega) (by omega))

theorem walk_w (s : Acc Ideal) (e : Fin 128) (r : Fin 512) : ∀ n : ℕ, n ≤ (k0_t1_loop i).trips →
    (walk I i s n).w (ix2 e r) = s.w (ix2 e r)
      + ∑ x : Fin 8192, if 512 * ((i 1).val + 1) ≤ x.val ∧ x.val < 512 * ((i 1).val + 1 + n) then dw I i e r x else 0
  | 0, _ => by rw [Finset.sum_eq_zero (fun x _ => if_neg (by omega)), add_zero]; rfl
  | n + 1, h => by
    rw [walk_succ I i s n h, trip_w, walk_w s e r n (by omega), add_assoc]
    exact congrArg _ (sum_join (dw I i e r) (512 * ((i 1).val + 1)) (512 * ((i 1).val + 1 + n))
      (512 * ((i 1).val + 1 + n) + 512) (by omega) (by omega))

theorem last_y (s : Acc Ideal) (d : Fin 192) (q : Fin 8192) :
    (last I i s).y (ix3 0 d q) = s.y (ix3 0 d q) + dy I i d q := by
  unfold last
  have hj := j_lt i
  have ht := trips1 i
  rw [walk_y I i _ d q _ (Nat.le_refl _), first_y, add_assoc]
  congr 1
  by_cases h0 : q.val < 512 * (i 1).val
  · rw [if_neg (by omega), if_neg (by omega), add_zero]
    exact (Finset.sum_eq_zero fun r _ => by rw [dsm_zero I _ r q h0, mul_zero]).symm
  · by_cases h1 : 512 * (i 1).val ≤ q.val ∧ q.val < 512 * (i 1).val + 512
    · rw [if_pos h1, if_neg (by omega), add_zero]
    · rw [if_neg h1, if_pos (by omega), zero_add]

theorem last_z (s : Acc Ideal) (d : Fin 192) (r : Fin 512) :
    (last I i s).z (ix2 d r) = s.z (ix2 d r) + ∑ x : Fin 8192, dz I i d r x := by
  unfold last
  have hj := j_lt i
  have ht := trips1 i
  rw [walk_z I i _ d r _ (Nat.le_refl _), first_z, add_assoc, show 512 * ((i 1).val + 1) = 512 * (i 1).val + 512 by omega,
    sum_join _ _ _ _ (by omega) (by omega), sum_tail _ _ _ (by omega)]
  exact fun x h => by show _ * _ = _; rw [dsm_zero I _ r x h, mul_zero]

theorem last_w (s : Acc Ideal) (e : Fin 128) (r : Fin 512) :
    (last I i s).w (ix2 e r) = s.w (ix2 e r) + ∑ x : Fin 8192, dw I i e r x := by
  unfold last
  have hj := j_lt i
  have ht := trips1 i
  rw [walk_w I i _ e r _ (Nat.le_refl _), first_w, add_assoc, show 512 * ((i 1).val + 1) = 512 * (i 1).val + 512 by omega,
    sum_join _ _ _ _ (by omega) (by omega), sum_tail _ _ _ (by omega)]
  exact fun x h => by show _ * _ = _; rw [pm_zero I _ r x h, mul_zero]

end Cert.BwdIdeal.Block

end
-- ==== Proof.BwdIdealFrame.lean ====
/-
  The attention backward call over its grid: what each point leaves in its three outputs, by recursion on the points of a
  head, and the run of the whole call with every block of the three final arrays named.
-/
module

public import proofs.«01_k».proof.Proof.BwdRun
public import Idealize.ShloMosaic.Lib.Pipeline.Value

@[expose] public section

set_option maxRecDepth 16384

noncomputable section

namespace Cert.BwdIdeal.Block

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch condition -/

/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The staging buffers at a point -/

/-- Each window's current staging memref at point `t`, spelled as the pipeline passes it (`bodyAt0`), and its wholeness. -/
abbrev ms0_0 (t : Fin cfg0.N) : Memref sig .tc .vmem S1x192x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x192x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x192x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S192x512 .f32 := Memref.whole cc0_scratch0
abbrev scM0_1 : Memref sig .tc .vmem S128x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What each point leaves -/

/-- The blocks the body reads at point `t`. -/
def ins (c : Dev nD) (t : Fin cfg0.N) : Ins F :=
  ⟨iblk m c 0 t, iblk m c 1 t, iblk m c 2 t, iblk m c 3 t, iblk m c 4 t, iblk m c 5 t, iblk m c 6 t⟩

/-- What the accumulators hold after point `n`: the gradient of q starts at zero at a head's first key block and is
    carried on from there, the other two start at zero at every point. -/
def outs (c : Dev nD) : (n : ℕ) → n < cfg0.N → Acc F
  | 0, h => last (ins m c ⟨0, h⟩) (grid0.coords ⟨0, h⟩) ⟨k0_pay16, k0_pay17, k0_pay18⟩
  | n + 1, h => last (ins m c ⟨n + 1, h⟩) (grid0.coords ⟨n + 1, h⟩)
      ⟨if (n + 1) % 16 = 0 then k0_pay16 else (outs c n (Nat.lt_of_succ_lt h)).y, k0_pay17, k0_pay18⟩

theorem outs_A (c : Dev nD) (t : Fin cfg0.N) (h0 : t.val % 16 = 0) :
    outs m c t.val t.isLt = last (ins m c t) (grid0.coords t) ⟨k0_pay16, k0_pay17, k0_pay18⟩ := by
  obtain ⟨n, h⟩ := t
  cases n with
  | zero => rfl
  | succ n => show last _ _ _ = _; rw [if_pos h0]

theorem outs_B (c : Dev nD) (t : Fin cfg0.N) (h0 : ¬ t.val % 16 = 0) :
    outs m c t.val t.isLt = last (ins m c t) (grid0.coords t)
      ⟨(outs m c (t.val - 1) (Nat.lt_of_le_of_lt (Nat.sub_le _ _) t.isLt)).y, k0_pay17, k0_pay18⟩ := by
  obtain ⟨n, h⟩ := t
  cases n with
  | zero => exact absurd rfl h0
  | succ n => show last _ _ _ = _; rw [if_neg h0]; rfl

/-- The proof data of the one pipeline on core `c`: the arrays as the region finds them; after the body at point `t` each
    input's buffer at its block and each output's at what `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => (outs m c t.val t.isLt).y
    | ⟨8, h⟩ => k0_pay6 (outs m c t.val t.isLt).z
    | ⟨9, h⟩ => k0_pay7 (outs m c t.val t.isLt).w
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outs m c t.val t.isLt).y := by dsimp only [dats]
theorem after0_8 (c : Dev nD) (t : Fin cfg0.N) : (dats m 0 c).after 8 t = k0_pay6 (outs m c t.val t.isLt).z := by dsimp only [dats]
theorem after0_9 (c : Dev nD) (t : Fin cfg0.N) : (dats m 0 c).after 9 t = k0_pay7 (outs m c t.val t.isLt).w := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Past a head's first key block the gradient of q is what the point before left. -/
theorem before0_7 (c : Dev nD) (t : Fin cfg0.N) (h0 : ¬ t.val % 16 = 0) (d) : (dats m 0 c).before 7 t d
    = (outs m c (t.val - 1) (Nat.lt_of_le_of_lt (Nat.sub_le _ _) t.isLt)).y := by
  rw [(dats m 0 c).before_out_kept 7 rfl t (by omega) (by
      rw [Bool.eq_false_iff]; intro h
      have := (flush0_7 ⟨t.val - 1, Nat.lt_of_le_of_lt (Nat.sub_le _ _) t.isLt⟩).mp h
      dsimp only at this; omega) (fun _ => rfl) (fun _ _ => rfl) d, after0_7]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the first key block of a head starts from anything, the others from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  by_cases h0 : t.val % 16 = 0
  · rw [outs_A m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ _ _ _ _ ((hcond0_0 t).mpr h0) (ins m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [outs_B m c t h0]; simp only [before0_7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_B c (grid0.coords t) _ _ _ _ _ _ _ _ _ _ _ _ _ _ _ _ _ _ _ _ _ _ _ _ (fun h => h0 ((hcond0_0 t).mp h)) (ins m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (Gen.frame_of m ρ (dats m) (A_eq m) (run_main m ρ)) ((θ_run defs _ _).mono (fun _ h => h.2) (run_main_quiescent m ρ))

/-- The run with the three results named and the arguments as launched. -/
theorem run_arr : θ_run defs (onTc (τ := τ) (main (F := F))) ⟨m, fun _ => 0, ρ⟩ (fun r => ∀ c : Dev nD,
      r.2.mem ((c : Thread nD τ).loc main_v1_0) = (dats m 0 c).arrAt 7 cfg0.N
      ∧ r.2.mem ((c : Thread nD τ).loc main_v1_1) = (dats m 0 c).arrAt 8 cfg0.N
      ∧ r.2.mem ((c : Thread nD τ).loc main_v1_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 7, (h c).1 8, (h c).1 9, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 3).trans (((dats m 0 c).arrAt_in 3 rfl _).trans ((A_eq m c 3).trans (V_main_arg2 m c))), ((h c).1 4).trans (((dats m 0 c).arrAt_in 4 rfl _).trans ((A_eq m c 4).trans (V_main_arg3 m c))), ((h c).1 5).trans (((dats m 0 c).arrAt_in 5 rfl _).trans ((A_eq m c 5).trans (V_main_arg4 m c))), ((h c).1 6).trans (((dats m 0 c).arrAt_in 6 rfl _).trans ((A_eq m c 6).trans (V_main_arg5 m c)))⟩)
    (run_main m ρ)

/-! ## The final arrays, block by block -/

theorem inj7 : ∀ t t' : Fin cfg0.N, t.val % 16 = 15 → t'.val % 16 = 15 → win0_7.index t = win0_7.index t' → t = t' :=
  (by decide +kernel : ∀ t t' : Fin grid0.N, t.val % 16 = 15 → t'.val % 16 = 15 → win0_7.index t = win0_7.index t' → t = t')
theorem inj8 : ∀ t t' : Fin cfg0.N, win0_8.index t = win0_8.index t' → t = t' :=
  (by decide +kernel : ∀ t t' : Fin grid0.N, win0_8.index t = win0_8.index t' → t = t')
theorem inj9 : ∀ t t' : Fin cfg0.N, win0_9.index t = win0_9.index t' → t = t' :=
  (by decide +kernel : ∀ t t' : Fin grid0.N, win0_9.index t = win0_9.index t' → t = t')

/-- The block a head's last point writes back of the gradient of q. -/
theorem blocks7 (c : Dev nD) (t : Fin cfg0.N) (hf : t.val % 16 = 15) :
    ((cfg0.win 7).blk t).view.read (Elt F) ((dats m 0 c).arrAt 7 cfg0.N) = (outs m c t.val t.isLt).y := by
  refine ((dats m 0 c).read_blk_arrAt_eq_flushed 7 (fun t t' h h' hne => (cfg0.win 7).disjoint_blk fun e =>
    hne (inj7 t t' ((flush0_7 t).mp h) ((flush0_7 t').mp h') e)) cfg0.N t t.isLt ((flush0_7 t).mpr hf)).trans ?_
  show (cfg0.win 7).cut (grid0.coords t) ((dats m 0 c).after 7 t) = _
  rw [after0_7]; rfl

/-- The block a point writes back of the gradient of k, -/
theorem blocks8 (c : Dev nD) (t : Fin cfg0.N) :
    ((cfg0.win 8).blk t).view.read (Elt F) ((dats m 0 c).arrAt 8 cfg0.N) = k0_pay6 (outs m c t.val t.isLt).z := by
  refine ((dats m 0 c).read_blk_arrAt_eq_flushed 8 (fun t t' h h' hne => (cfg0.win 8).disjoint_blk fun e =>
    hne (inj8 t t' e)) cfg0.N t t.isLt (flush0_8 t)).trans ?_
  show (cfg0.win 8).cut (grid0.coords t) ((dats m 0 c).after 8 t) = _
  rw [after0_8]; rfl

/-- and of the gradient of v. -/
theorem blocks9 (c : Dev nD) (t : Fin cfg0.N) :
    ((cfg0.win 9).blk t).view.read (Elt F) ((dats m 0 c).arrAt 9 cfg0.N) = k0_pay7 (outs m c t.val t.isLt).w := by
  refine ((dats m 0 c).read_blk_arrAt_eq_flushed 9 (fun t t' h h' hne => (cfg0.win 9).disjoint_blk fun e =>
    hne (inj9 t t' e)) cfg0.N t t.isLt (flush0_9 t)).trans ?_
  show (cfg0.win 9).cut (grid0.coords t) ((dats m 0 c).after 9 t) = _
  rw [after0_9]; rfl

end Cert.BwdIdeal.Block

end
-- ==== Proof.BwdValue.lean ====
/-
  What the kernel leaves, at the ideal instance: the blocks read the arguments, the gradient of q is carried over a
  head's key blocks, and each array's entry is one sum over the whole sequence.
-/
module

public import proofs.«01_k».proof.Proof.BwdSum
public import proofs.«01_k».proof.Proof.BwdIdealFrame

@[expose] public section

set_option maxRecDepth 65536

noncomputable section

namespace Cert.BwdIdeal.Block

open Idealize.ShloMosaic Idealize.ShloMosaic.TcCoe Idealize.ShloMosaic.Tactic Idealize.SL.Sem Cert.BwdIdeal.Gen

variable (m : (ℓ : Loc nD τ sig) → Buf (Elt Ideal) ℓ) (c : Dev nD)

/-- The arguments, as arrays of extended reals. -/
abbrev A0 : Vec Ideal S4x192x8192 .bf16 := m ((c.tc : Thread nD τ).loc main_arg0)
abbrev A1 : Vec Ideal S4x8192x192 .bf16 := m ((c.tc : Thread nD τ).loc main_arg1)
abbrev A2 : Vec Ideal S4x8192x128 .bf16 := m ((c.tc : Thread nD τ).loc main_arg2)
abbrev A3 : Vec Ideal S512x8192 .bf16 := m ((c.tc : Thread nD τ).loc main_arg3)
abbrev A4 : Vec Ideal S4x1x8192 .f32 := m ((c.tc : Thread nD τ).loc main_arg4)
abbrev A5 : Vec Ideal S4x1x8192 .f32 := m ((c.tc : Thread nD τ).loc main_arg5)

/-- Row `e` of head `h` in the array whose rows are all heads' rows. -/
abbrev hrow (h : Fin 4) (e : Fin 128) : Fin 512 := ⟨128 * h.val + e.val, by omega⟩

/-- The attention weight of key `k` for query `q`: zero for a key after the query. -/
def PG (h : Fin 4) (k q : Fin 8192) : EReal :=
  if k.val ≤ q.val then
    Ideal.exp2 ((∑ d : Fin 192, A1 m c (ix3 h k d) * A0 m c (ix3 h d q)) * scale - A4 m c (ix3 h 0 q)) else 0

/-- The gradient of its score. -/
def DG (h : Fin 4) (k q : Fin 8192) : EReal :=
  (PG m c h k q * ((∑ e : Fin 128, A2 m c (ix3 h k e) * A3 m c (ix2 (hrow h e) q)) - A5 m c (ix3 h 0 q))) * sm

/-- The head and the key row of point `t`. -/
abbrev hd (t : Fin cfg0.N) : Fin 4 := ⟨t.val / 16, by have := lt_of_lt_of_eq t.isLt N_0; omega⟩
abbrev key (t : Fin cfg0.N) (r : Fin 512) : Fin 8192 := ⟨512 * (t.val % 16) + r.val, by omega⟩

theorem coord1 (t : Fin cfg0.N) : (grid0.coords t 1).val = t.val % 16 :=
  (by decide +kernel : ∀ t : Fin grid0.N, (grid0.coords t 1).val = t.val % 16) t

theorem idx0 : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = t.val % 16 :=
  (by decide +kernel : ∀ t : Fin grid0.N, _)
theorem idx3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem idx4 : ∀ t : Fin cfg0.N, win0_4.index t (0 : Fin 2) = t.val / 16 ∧ win0_4.index t (1 : Fin 2) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 16 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 16 ∧ win0_8.index t (1 : Fin 3) = 0 ∧ win0_8.index t (2 : Fin 3) = t.val % 16 :=
  (by decide +kernel : ∀ t : Fin grid0.N, _)
theorem idx9 : ∀ t : Fin cfg0.N, win0_9.index t (0 : Fin 3) = t.val / 16 ∧ win0_9.index t (1 : Fin 3) = 0 ∧ win0_9.index t (2 : Fin 3) = t.val % 16 :=
  (by decide +kernel : ∀ t : Fin grid0.N, _)

theorem emb0 (t : Fin cfg0.N) (u : Fin 1) (d : Fin 192) (q : Fin 8192) :
    ((cfg0.win 0).blk t).view.emb (ix3 u d q) = ix3 (hd t) d q := by
  refine funext fun a => Fin.ext ?_
  obtain ⟨h0, h1, h2⟩ := idx0 t
  match a with
  | ⟨0, _⟩ => show win0_0.index t (0 : Fin 3) * 1 + 1 * u.val = t.val / 16; rw [h0]; omega
  | ⟨1, _⟩ => show win0_0.index t (1 : Fin 3) * 192 + 1 * d.val = d.val; rw [h1]; omega
  | ⟨2, _⟩ => show win0_0.index t (2 : Fin 3) * 8192 + 1 * q.val = q.val; rw [h2]; omega

theorem emb1 (t : Fin cfg0.N) (u : Fin 1) (r : Fin 512) (d : Fin 192) :
    ((cfg0.win 1).blk t).view.emb (ix3 u r d) = ix3 (hd t) (key t r) d := by
  refine funext fun a => Fin.ext ?_
  obtain ⟨h0, h1, h2⟩ := idx1 t
  match a with
  | ⟨0, _⟩ => show win0_1.index t (0 : Fin 3) * 1 + 1 * u.val = t.val / 16; rw [h0]; omega
  | ⟨1, _⟩ => show win0_1.index t (1 : Fin 3) * 512 + 1 * r.val = 512 * (t.val % 16) + r.val; rw [h1]; omega
  | ⟨2, _⟩ => show win0_1.index t (2 : Fin 3) * 192 + 1 * d.val = d.val; rw [h2]; omega

theorem emb2 (t : Fin cfg0.N) (u : Fin 1) (d : Fin 192) (r : Fin 512) :
    ((cfg0.win 2).blk t).view.emb (ix3 u d r) = ix3 (hd t) d (key t r) := by
  refine funext fun a => Fin.ext ?_
  obtain ⟨h0, h1, h2⟩ := idx2 t
  match a with
  | ⟨0, _⟩ => show win0_2.index t (0 : Fin 3) * 1 + 1 * u.val = t.val / 16; rw [h0]; omega
  | ⟨1, _⟩ => show win0_2.index t (1 : Fin 3) * 192 + 1 * d.val = d.val; rw [h1]; omega
  | ⟨2, _⟩ => show win0_2.index t (2 : Fin 3) * 512 + 1 * r.val = 512 * (t.val % 16) + r.val; rw [h2]; omega

theorem emb3 (t : Fin cfg0.N) (u : Fin 1) (r : Fin 512) (e : Fin 128) :
    ((cfg0.win 3).blk t).view.emb (ix3 u r e) = ix3 (hd t) (key t r) e := by
  refine funext fun a => Fin.ext ?_
  obtain ⟨h0, h1, h2⟩ := idx3 t
  match a with
  | ⟨0, _⟩ => show win0_3.index t (0 : Fin 3) * 1 + 1 * u.val = t.val / 16; rw [h0]; omega
  | ⟨1, _⟩ => show win0_3.index t (1 : Fin 3) * 512 + 1 * r.val = 512 * (t.val % 16) + r.val; rw [h1]; omega
  | ⟨2, _⟩ => show win0_3.index t (2 : Fin 3) * 128 + 1 * e.val = e.val; rw [h2]; omega

theorem emb4 (t : Fin cfg0.N) (e : Fin 128) (q : Fin 8192) :
    ((cfg0.win 4).blk t).view.emb (ix2 e q) = ix2 (hrow (hd t) e) q := by
  refine funext fun a => Fin.ext ?_
  obtain ⟨h0, h1⟩ := idx4 t
  match a with
  | ⟨0, _⟩ => show win0_4.index t (0 : Fin 2) * 128 + 1 * e.val = 128 * (t.val / 16) + e.val; rw [h0]; omega
  | ⟨1, _⟩ => show win0_4.index t (1 : Fin 2) * 8192 + 1 * q.val = q.val; rw [h1]; omega

theorem emb5 (t : Fin cfg0.N) (u : Fin 1) (v : Fin 1) (q : Fin 8192) :
    ((cfg0.win 5).blk t).view.emb (ix3 u v q) = ix3 (hd t) (0 : Fin 1) q := by
  refine funext fun a => Fin.ext ?_
  obtain ⟨h0, h1, h2⟩ := idx5 t
  match a with
  | ⟨0, _⟩ => show win0_5.index t (0 : Fin 3) * 1 + 1 * u.val = t.val / 16; rw [h0]; omega
  | ⟨1, _⟩ => show win0_5.index t (1 : Fin 3) * 1 + 1 * v.val = 0; rw [h1]; omega
  | ⟨2, _⟩ => show win0_5.index t (2 : Fin 3) * 8192 + 1 * q.val = q.val; rw [h2]; omega

theorem emb6 (t : Fin cfg0.N) (u : Fin 1) (v : Fin 1) (q : Fin 8192) :
    ((cfg0.win 6).blk t).view.emb (ix3 u v q) = ix3 (hd t) (0 : Fin 1) q := by
  refine funext fun a => Fin.ext ?_
  obtain ⟨h0, h1, h2⟩ := idx6 t
  match a with
  | ⟨0, _⟩ => show win0_6.index t (0 : Fin 3) * 1 + 1 * u.val = t.val / 16; rw [h0]; omega
  | ⟨1, _⟩ => show win0_6.index t (1 : Fin 3) * 1 + 1 * v.val = 0; rw [h1]; omega
  | ⟨2, _⟩ => show win0_6.index t (2 : Fin 3) * 8192 + 1 * q.val = q.val; rw [h2]; omega

theorem emb7 (t : Fin cfg0.N) (u : Fin 1) (d : Fin 192) (q : Fin 8192) :
    ((cfg0.win 7).blk t).view.emb (ix3 u d q) = ix3 (hd t) d q := by
  refine funext fun a => Fin.ext ?_
  obtain ⟨h0, h1, h2⟩ := idx7 t
  match a with
  | ⟨0, _⟩ => show win0_7.index t (0 : Fin 3) * 1 + 1 * u.val = t.val / 16; rw [h0]; omega
  | ⟨1, _⟩ => show win0_7.index t (1 : Fin 3) * 192 + 1 * d.val = d.val; rw [h1]; omega
  | ⟨2, _⟩ => show win0_7.index t (2 : Fin 3) * 8192 + 1 * q.val = q.val; rw [h2]; omega

theorem emb8 (t : Fin cfg0.N) (u : Fin 1) (d : Fin 192) (r : Fin 512) :
    ((cfg0.win 8).blk t).view.emb (ix3 u d r) = ix3 (hd t) d (key t r) := by
  refine funext fun a => Fin.ext ?_
  obtain ⟨h0, h1, h2⟩ := idx8 t
  match a with
  | ⟨0, _⟩ => show win0_8.index t (0 : Fin 3) * 1 + 1 * u.val = t.val / 16; rw [h0]; omega
  | ⟨1, _⟩ => show win0_8.index t (1 : Fin 3) * 192 + 1 * d.val = d.val; rw [h1]; omega
  | ⟨2, _⟩ => show win0_8.index t (2 : Fin 3) * 512 + 1 * r.val = 512 * (t.val % 16) + r.val; rw [h2]; omega

theorem emb9 (t : Fin cfg0.N) (u : Fin 1) (e : Fin 128) (r : Fin 512) :
    ((cfg0.win 9).blk t).view.emb (ix3 u e r) = ix3 (hd t) e (key t r) := by
  refine funext fun a => Fin.ext ?_
  obtain ⟨h0, h1, h2⟩ := idx9 t
  match a with
  | ⟨0, _⟩ => show win0_9.index t (0 : Fin 3) * 1 + 1 * u.val = t.val / 16; rw [h0]; omega
  | ⟨1, _⟩ => show win0_9.index t (1 : Fin 3) * 128 + 1 * e.val = e.val; rw [h1]; omega
  | ⟨2, _⟩ => show win0_9.index t (2 : Fin 3) * 512 + 1 * r.val = 512 * (t.val % 16) + r.val; rw [h2]; omega

/-! ## The blocks read the arguments -/

theorem V_v0 : V m c main_v0 = transpose S4x192x8192 [0, 2, 1] (A1 m c) transposes_S4x8192x192_S4x192x8192_0_2_1 := by
  unfold V; after_results

theorem ins0 (t : Fin cfg0.N) (u : Fin 1) (d : Fin 192) (q : Fin 8192) : (ins m c t).q (ix3 u d q) = A0 m c (ix3 (hd t) d q) := by
  show V m c main_arg0 (((cfg0.win 0).blk t).view.emb (ix3 u d q)) = _
  rw [V_main_arg0, emb0]

theorem ins1 (t : Fin cfg0.N) (u : Fin 1) (r : Fin 512) (d : Fin 192) : (ins m c t).k (ix3 u r d) = A1 m c (ix3 (hd t) (key t r) d) := by
  show V m c main_arg1 (((cfg0.win 1).blk t).view.emb (ix3 u r d)) = _
  rw [V_main_arg1, emb1]

theorem ins2 (t : Fin cfg0.N) (u : Fin 1) (d : Fin 192) (r : Fin 512) : (ins m c t).kt (ix3 u d r) = A1 m c (ix3 (hd t) (key t r) d) := by
  show V m c main_v0 (((cfg0.win 2).blk t).view.emb (ix3 u d r)) = _
  rw [V_v0, emb2]
  pointwise

theorem ins3 (t : Fin cfg0.N) (u : Fin 1) (r : Fin 512) (e : Fin 128) : (ins m c t).v (ix3 u r e) = A2 m c (ix3 (hd t) (key t r) e) := by
  show V m c main_arg2 (((cfg0.win 3).blk t).view.emb (ix3 u r e)) = _
  rw [V_main_arg2, emb3]

theorem ins4 (t : Fin cfg0.N) (e : Fin 128) (q : Fin 8192) : (ins m c t).d (ix2 e q) = A3 m c (ix2 (hrow (hd t) e) q) := by
  show V m c main_arg3 (((cfg0.win 4).blk t).view.emb (ix2 e q)) = _
  rw [V_main_arg3, emb4]

theorem ins5 (t : Fin cfg0.N) (u : Fin 1) (v : Fin 1) (q : Fin 8192) : (ins m c t).l (ix3 u v q) = A4 m c (ix3 (hd t) (0 : Fin 1) q) := by
  show V m c main_arg4 (((cfg0.win 5).blk t).view.emb (ix3 u v q)) = _
  rw [V_main_arg4, emb5]

theorem ins6 (t : Fin cfg0.N) (u : Fin 1) (v : Fin 1) (q : Fin 8192) : (ins m c t).e (ix3 u v q) = A5 m c (ix3 (hd t) (0 : Fin 1) q) := by
  show V m c main_arg5 (((cfg0.win 6).blk t).view.emb (ix3 u v q)) = _
  rw [V_main_arg5, emb6]

theorem pm_ins (t : Fin cfg0.N) (r : Fin 512) (q : Fin 8192) :
    pm (ins m c t) (grid0.coords t 1).val r q = PG m c (hd t) (key t r) q := by
  unfold pm PG
  simp only [ins0, ins1, ins5, coord1]

theorem dsm_ins (t : Fin cfg0.N) (r : Fin 512) (q : Fin 8192) :
    dsm (ins m c t) (grid0.coords t 1).val r q = DG m c (hd t) (key t r) q := by
  unfold dsm DG
  rw [pm_ins]
  simp only [ins3, ins4, ins6]

/-! ## The accumulators after a point -/

theorem outs_z (t : Fin cfg0.N) (d : Fin 192) (r : Fin 512) :
    (outs m c t.val t.isLt).z (ix2 d r) = ∑ q : Fin 8192, A0 m c (ix3 (hd t) d q) * DG m c (hd t) (key t r) q := by
  have e : ∑ q : Fin 8192, dz (ins m c t) (grid0.coords t) d r q
      = ∑ q : Fin 8192, A0 m c (ix3 (hd t) d q) * DG m c (hd t) (key t r) q :=
    Finset.sum_congr rfl fun q _ => by unfold dz; rw [ins0, dsm_ins]
  by_cases h0 : t.val % 16 = 0
  · rw [outs_A m c t h0, last_z, e]; dsimp only; rw [pay17_apply, zero_add]
  · rw [outs_B m c t h0, last_z, e]; dsimp only; rw [pay17_apply, zero_add]

theorem outs_w (t : Fin cfg0.N) (e : Fin 128) (r : Fin 512) :
    (outs m c t.val t.isLt).w (ix2 e r) = ∑ q : Fin 8192, A3 m c (ix2 (hrow (hd t) e) q) * PG m c (hd t) (key t r) q := by
  have e' : ∑ q : Fin 8192, dw (ins m c t) (grid0.coords t) e r q
      = ∑ q : Fin 8192, A3 m c (ix2 (hrow (hd t) e) q) * PG m c (hd t) (key t r) q :=
    Finset.sum_congr rfl fun q _ => by unfold dw; rw [ins4, pm_ins]
  by_cases h0 : t.val % 16 = 0
  · rw [outs_A m c t h0, last_w, e']; dsimp only; rw [pay18_apply, zero_add]
  · rw [outs_B m c t h0, last_w, e']; dsimp only; rw [pay18_apply, zero_add]

/-- The term of key `k` in the gradient of q. -/
def QT (h : Fin 4) (d : Fin 192) (q k : Fin 8192) : EReal := A1 m c (ix3 h k d) * DG m c h k q

theorem dy_ins (t : Fin cfg0.N) (d : Fin 192) (q : Fin 8192) : dy (ins m c t) (grid0.coords t) d q
    = ∑ k : Fin 8192, if 512 * (t.val % 16) ≤ k.val ∧ k.val < 512 * (t.val % 16) + 512 then QT m c (hd t) d q k else 0 := by
  rw [← sum_block _ _ (by omega)]
  exact Finset.sum_congr rfl fun r _ => by rw [ins2, dsm_ins]; rfl

theorem outs_y : ∀ (n : ℕ) (hn : n < cfg0.N) (d : Fin 192) (q : Fin 8192), (outs m c n hn).y (ix3 0 d q)
    = ∑ k : Fin 8192, if 0 ≤ k.val ∧ k.val < 512 * (n % 16) + 512 then QT m c (hd ⟨n, hn⟩) d q k else 0 := by
  intro n
  induction n with
  | zero =>
    intro hn d q
    rw [outs_A m c ⟨0, hn⟩ rfl, last_y, dy_ins]
    dsimp only
    rw [pay16_apply, zero_add]
    rfl
  | succ n ih =>
    intro hn d q
    by_cases h0 : (n + 1) % 16 = 0
    · rw [outs_A m c ⟨n + 1, hn⟩ h0, last_y, dy_ins]
      dsimp only
      rw [pay16_apply, zero_add, h0]
    · rw [outs_B m c ⟨n + 1, hn⟩ h0, last_y, dy_ins]
      dsimp only
      have e : hd ⟨n, Nat.lt_of_succ_lt hn⟩ = hd ⟨n + 1, hn⟩ := Fin.ext (by show n / 16 = (n + 1) / 16; omega)
      have ih' := ih (Nat.lt_of_succ_lt hn) d q
      rw [e, show 512 * (n % 16) + 512 = 512 * ((n + 1) % 16) by omega] at ih'
      rw [show (outs m c (n + 1 - 1) _).y (ix3 0 d q) = _ from ih', sum_join _ _ _ _ (by omega) (by omega)]

/-! ## The final arrays -/

theorem arr7 (h : Fin 4) (d : Fin 192) (q : Fin 8192) :
    ((dats m 0 c).arrAt 7 cfg0.N : Vec Ideal S4x192x8192 .f32) (ix3 h d q) = ∑ k : Fin 8192, A1 m c (ix3 h k d) * DG m c h k q := by
  have hN : 16 * h.val + 15 < cfg0.N := by rw [show cfg0.N = 64 from N_0]; omega
  have e := congrFun (blocks7 m c ⟨16 * h.val + 15, hN⟩ (by show (16 * h.val + 15) % 16 = 15; omega)) (ix3 0 d q)
  have hh : hd ⟨16 * h.val + 15, hN⟩ = h := Fin.ext (by show (16 * h.val + 15) / 16 = h.val; omega)
  change ((dats m 0 c).arrAt 7 cfg0.N) (((cfg0.win 7).blk ⟨16 * h.val + 15, hN⟩).view.emb (ix3 0 d q)) = _ at e
  rw [emb7, hh] at e
  refine e.trans ((outs_y m c _ _ d q).trans ?_)
  rw [hh, sum_tail _ _ _ (by show 8192 ≤ 512 * ((16 * h.val + 15) % 16) + 512; omega) fun x hx => absurd hx (Nat.not_lt_zero _)]
  rfl

theorem point (h : Fin 4) (k : Fin 8192) : 16 * h.val + k.val / 512 < cfg0.N := by
  rw [show cfg0.N = 64 from N_0]; omega
theorem hd_point (h : Fin 4) (k : Fin 8192) : hd ⟨16 * h.val + k.val / 512, point h k⟩ = h :=
  Fin.ext (by show (16 * h.val + k.val / 512) / 16 = h.val; omega)
theorem key_point (h : Fin 4) (k : Fin 8192) : key ⟨16 * h.val + k.val / 512, point h k⟩ ⟨k.val % 512, Nat.mod_lt _ (by decide)⟩ = k :=
  Fin.ext (by show 512 * ((16 * h.val + k.val / 512) % 16) + k.val % 512 = k.val; omega)

theorem arr8 (h : Fin 4) (d : Fin 192) (k : Fin 8192) :
    ((dats m 0 c).arrAt 8 cfg0.N : Vec Ideal S4x192x8192 .f32) (ix3 h d k) = ∑ q : Fin 8192, A0 m c (ix3 h d q) * DG m c h k q := by
  have e := congrFun (blocks8 m c ⟨16 * h.val + k.val / 512, point h k⟩) (ix3 0 d ⟨k.val % 512, Nat.mod_lt _ (by decide)⟩)
  change ((dats m 0 c).arrAt 8 cfg0.N) (((cfg0.win 8).blk ⟨16 * h.val + k.val / 512, point h k⟩).view.emb (ix3 0 d ⟨k.val % 512, Nat.mod_lt _ (by decide)⟩)) = _ at e
  rw [emb8, hd_point, key_point] at e
  refine e.trans ((pay6_apply _ _ _).trans ((outs_z m c ⟨16 * h.val + k.val / 512, point h k⟩ d _).trans ?_))
  rw [hd_point, key_point]

theorem arr9 (h : Fin 4) (b : Fin 128) (k : Fin 8192) :
    ((dats m 0 c).arrAt 9 cfg0.N : Vec Ideal S4x128x8192 .f32) (ix3 h b k) = ∑ q : Fin 8192, A3 m c (ix2 (hrow h b) q) * PG m c h k q := by
  have e := congrFun (blocks9 m c ⟨16 * h.val + k.val / 512, point h k⟩) (ix3 0 b ⟨k.val % 512, Nat.mod_lt _ (by decide)⟩)
  change ((dats m 0 c).arrAt 9 cfg0.N) (((cfg0.win 9).blk ⟨16 * h.val + k.val / 512, point h k⟩).view.emb (ix3 0 b ⟨k.val % 512, Nat.mod_lt _ (by decide)⟩)) = _ at e
  rw [emb9, hd_point, key_point] at e
  refine e.trans ((pay7_apply _ _ _).trans ((outs_w m c ⟨16 * h.val + k.val / 512, point h k⟩ b _).trans ?_))
  rw [hd_point, key_point]

end Cert.BwdIdeal.Block

end
-- ==== Proof.BwdFrame.lean ====
/-
  The frame of the attention backward call as compiled: every run ends, leaves the argument arrays as they were
  launched and every semaphore at zero. What the call leaves in its three outputs is not named here.
-/
module

public import proofs.«01_k».proof.Proof.Gen.Bwd.Frame
public import proofs.«01_k».proof.Proof.Gen.Bwd.Skeleton
public import proofs.«01_k».proof.Proof.Gen.Bwd.Loops
public import Idealize.ShloMosaic.Lib.Claim

@[expose] public section

set_option maxRecDepth 16384

noncomputable section

namespace Cert.Bwd.Hand

open Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Bwd`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x192x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x192x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x192x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S192x512 .f32 := Memref.whole cc0_scratch0
abbrev scM0_1 : Memref sig .tc .vmem S128x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple IN CASE A (`scf.if` 0 taken: points 0, 16, 32, 48): on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x192x8192 .bf16) (harg2 : arg2.IsWhole) (arg3 : Memref sig .tc .vmem S1x512x192 .bf16) (harg3 : arg3.IsWhole) (arg4 : Memref sig .tc .vmem S1x192x512 .bf16) (harg4 : arg4.IsWhole) (arg5 : Memref sig .tc .vmem S1x512x128 .bf16) (harg5 : arg5.IsWhole) (arg6 : Memref sig .tc .vmem S128x8192 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S1x192x8192 .f32) (harg9 : arg9.IsWhole) (arg10 : Memref sig .tc .vmem S1x192x512 .f32) (harg10 : arg10.IsWhole) (arg11 : Memref sig .tc .vmem S1x128x512 .f32) (harg11 : arg11.IsWhole) (arg12 : Memref sig .tc .vmem S192x512 .f32) (harg12 : arg12.IsWhole) (arg13 : Memref sig .tc .vmem S128x512 .f32) (harg13 : arg13.IsWhole) (hc0 : cond0_0 i)
    (x0 : Vec F S1x192x8192 .bf16) (x1 : Vec F S1x512x192 .bf16) (x2 : Vec F S1x192x512 .bf16) (x3 : Vec F S1x512x128 .bf16) (x4 : Vec F S128x8192 .bf16) (x5 : Vec F S1x1x8192 .f32) (x6 : Vec F S1x1x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_k5_bwd i arg2 harg2 arg3 harg3 arg4 harg4 arg5 harg5 arg6 harg6 arg7 harg7 arg8 harg8 arg9 harg9 arg10 harg10 arg11 harg11 arg12 harg12 arg13 harg13) K := by
    intro E K
    simp only [cc0_k5_bwd_eq_skeleton]; unfold cc0_k5_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE B (`scf.if` 0 not taken: points 1, 2, … 63: 60 of 64): on whole staging memrefs — the inputs' at their contents,
    the FORGOTTEN outputs' (7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x192x8192 .bf16) (harg2 : arg2.IsWhole) (arg3 : Memref sig .tc .vmem S1x512x192 .bf16) (harg3 : arg3.IsWhole) (arg4 : Memref sig .tc .vmem S1x192x512 .bf16) (harg4 : arg4.IsWhole) (arg5 : Memref sig .tc .vmem S1x512x128 .bf16) (harg5 : arg5.IsWhole) (arg6 : Memref sig .tc .vmem S128x8192 .bf16) (harg6 : arg6.IsWhole) (arg7 : Memref sig .tc .vmem S1x1x8192 .f32) (harg7 : arg7.IsWhole) (arg8 : Memref sig .tc .vmem S1x1x8192 .f32) (harg8 : arg8.IsWhole) (arg9 : Memref sig .tc .vmem S1x192x8192 .f32) (harg9 : arg9.IsWhole) (arg10 : Memref sig .tc .vmem S1x192x512 .f32) (harg10 : arg10.IsWhole) (arg11 : Memref sig .tc .vmem S1x128x512 .f32) (harg11 : arg11.IsWhole) (arg12 : Memref sig .tc .vmem S192x512 .f32) (harg12 : arg12.IsWhole) (arg13 : Memref sig .tc .vmem S128x512 .f32) (harg13 : arg13.IsWhole) (hc0 : ¬cond0_0 i)
    (x0 : Vec F S1x192x8192 .bf16) (x1 : Vec F S1x512x192 .bf16) (x2 : Vec F S1x192x512 .bf16) (x3 : Vec F S1x512x128 .bf16) (x4 : Vec F S128x8192 .bf16) (x5 : Vec F S1x1x8192 .f32) (x6 : Vec F S1x1x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_k5_bwd i arg2 harg2 arg3 harg3 arg4 harg4 arg5 harg5 arg6 harg6 arg7 harg7 arg8 harg8 arg9 harg9 arg10 harg10 arg11 harg11 arg12 harg12 arg13 harg13) K := by
    intro E K
    simp only [cc0_k5_bwd_eq_skeleton]; unfold cc0_k5_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  have hN : t.val < 64 := lt_of_lt_of_eq t.isLt (show cfg0.N = 64 from N_0)
  by_cases h0 : t.val % 16 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Hand.frame_of m ρ (fun c => (dats m 0 c).toRForget forgets0) (A_eq m) (run_main m ρ)

/-- THE FRAME: `Cert.quiescent_Bwd`'s statement (Defs.lean) at any `F` — Proof.lean cites it at `Bits`:
    `theorem Cert.Proof.claim : Cert.Claim := ⟨Cert.Bwd.Hand.facts, fun m ρ _ => Cert.Bwd.Hand.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Bwd.Hand

end
-- ==== Proof.BwdClaim.lean ====
/-
  The claims about `k5_bwd`: both programs leave the gradients of q, k and v at the same functions of the arguments.
-/
module

public import proofs.«01_k».proof.Defs
public import proofs.«01_k».proof.Proof.BwdValue
public import proofs.«01_k».proof.Proof.BwdFrame
public import proofs.«01_k».proof.Proof.Gen.BwdRefIdeal.Run
public import Idealize.ShloMosaic.Lib.Quiescent

@[expose] public section

set_option maxRecDepth 65536

noncomputable section

namespace Cert.BwdIdeal.Block

open Idealize.ShloMosaic Idealize.ShloMosaic.TcCoe Idealize.ShloMosaic.Tactic Idealize.SL.Sem

theorem preserves : Cert.preserves_Bwd_BwdIdeal :=
  IdealRules.named_const.statement Cert.BwdIdeal.κ "score_scale" .f32 0x3DD53B94#32 _ rfl

theorem quiescent_ref : Cert.quiescent_BwdRefIdeal := fun m g _ =>
  (θ_run _ _ _).mono (fun r h => ⟨fun c => (h c).2.2.2, sem_eq_zero_of_no_sems rfl r.2⟩) (Cert.BwdRefIdeal.Value.run (F := Ideal) m g)

/-! ## Numbers -/

theorem bits_sm : sm = ((4843165 / 67108864 : ℝ) : EReal) := by
  simp [sm, Ideal.ofBits, Ideal.ieee, -EReal.coe_mul]; norm_num
theorem bits_log2e : Ideal.ofBits .f32 0x3FB8AA3B#32 = ((12102203 / 8388608 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bot : Ideal.ofBits .f32 0xFF800000#32 = ⊥ := by
  simp [Ideal.ofBits, Ideal.ieee]

/-- The two factors of the reference are the kernel's one. -/
theorem scale_mul : sm * Ideal.ofBits .f32 0x3FB8AA3B#32 = scale := by
  rw [bits_sm, bits_log2e, ← EReal.coe_mul]; norm_num [scale]

/-- The two spellings of a head's row. -/
theorem hrow_eq (h : Fin 4) (e : Fin 128) (w : h.val * 128 + e.val < 512) : (⟨h.val * 128 + e.val, w⟩ : Fin 512) = hrow h e :=
  Fin.ext (by show h.val * 128 + e.val = 128 * h.val + e.val; omega)

/-- A power of two is the base-two exponential. -/
theorem pow_two (x : EReal) : Ideal.pow ((2 : ℝ) : EReal) x = Ideal.exp2 x := by
  induction x using EReal.rec with
  | bot => show (if (2 : ℝ) < 0 then ⊥ else if (1 : ℝ) < 2 then (0 : EReal) else _) = 0; rw [if_neg (by norm_num), if_pos (by norm_num)]
  | top => show (if (2 : ℝ) < 0 then ⊥ else if (1 : ℝ) < 2 then (⊤ : EReal) else _) = ⊤; rw [if_neg (by norm_num), if_pos (by norm_num)]
  | coe r => rfl

/-! ## The reference's terms at an entry -/

section

open Cert.BwdRefIdeal Cert.BwdRefIdeal.Gen

variable (a0 : Vec Ideal S4x192x8192 .bf16) (a1 : Vec Ideal S4x8192x192 .bf16) (a2 : Vec Ideal S4x8192x128 .bf16) (a3 : Vec Ideal S512x8192 .bf16)
  (a4 a5 : Vec Ideal S4x1x8192 .f32)

/-- The attention weights. -/
abbrev refP : FVec Ideal S4x8192x8192 .f32 :=
  Host.powf (broadcastInDim S4x8192x8192 ![] bcast_S_S4x8192x8192 (constant S_ .f32 0x40000000#32)) (subf (select (broadcastInDim S4x8192x8192 ![1, 2] bcast_S8192x8192_S4x8192x8192_1_2 (cmpi .sle (iotaInDim S8192x8192 32 1) (iotaInDim S8192x8192 32 0))) (mulf (mulf (Host.dotGeneral dot_S4x8192x192_S4x8192x192_S4x8192x8192_2_2_1_1_0_0 none (φ₁ := .bf16) (φ₂ := .bf16) (transpose S4x8192x192 [0, 2, 1] a0 transposes_S4x192x8192_S4x8192x192_0_2_1) a1) (broadcastInDim S4x8192x8192 ![] bcast_S_S4x8192x8192 (constant S_ .f32 0x3D93CD3A#32))) (broadcastInDim S4x8192x8192 ![] bcast_S_S4x8192x8192 (constant S_ .f32 0x3FB8AA3B#32))) (broadcastInDim S4x8192x8192 ![] bcast_S_S4x8192x8192 (id (constant S_ .f32 0xFF800000#32)))) (broadcastInDim S4x8192x8192 ![0, 1, 2] bcast_S4x8192x1_S4x8192x8192_0_1_2 (transpose S4x8192x1 [0, 2, 1] a4 transposes_S4x1x8192_S4x8192x1_0_2_1)))

/-- The gradient of the scores. -/
abbrev refDs : FVec Ideal S4x8192x8192 .bf16 :=
  truncf .bf16 (mulf (mulf (refP a0 a1 a4) (subf (Host.dotGeneral dot_S4x8192x128_S4x8192x128_S4x8192x8192_2_2_1_1_0_0 none (φ₁ := .bf16) (φ₂ := .bf16) (transpose S4x8192x128 [0, 2, 1] (shapeCast _ a3 shapeCasts_S512x8192_S4x128x8192) transposes_S4x128x8192_S4x8192x128_0_2_1) a2) (broadcastInDim S4x8192x8192 ![0, 1, 2] bcast_S4x8192x1_S4x8192x8192_0_1_2 (transpose S4x8192x1 [0, 2, 1] a5 transposes_S4x1x8192_S4x8192x1_0_2_1)))) (broadcastInDim S4x8192x8192 ![] bcast_S_S4x8192x8192 (constant S_ .f32 0x3D93CD3A#32))) bitsLt_bf16_f32

/-- The gradients of q, k and v. -/
abbrev refDq : FVec Ideal S4x192x8192 .f32 :=
  Host.dotGeneral dot_S4x8192x192_S4x8192x8192_S4x192x8192_1_2_2_1_0_0 none (φ₁ := .bf16) (φ₂ := .bf16) a1 (refDs a0 a1 a2 a3 a4 a5)
abbrev refDk : FVec Ideal S4x192x8192 .f32 :=
  Host.dotGeneral dot_S4x8192x192_S4x8192x8192_S4x192x8192_1_1_2_2_0_0 none (φ₁ := .bf16) (φ₂ := .bf16) (transpose S4x8192x192 [0, 2, 1] a0 transposes_S4x192x8192_S4x8192x192_0_2_1) (refDs a0 a1 a2 a3 a4 a5)
abbrev refDv : FVec Ideal S4x128x8192 .f32 :=
  Host.dotGeneral dot_S4x8192x128_S4x8192x8192_S4x128x8192_1_1_2_2_0_0 none (φ₁ := .bf16) (φ₂ := .bf16) (transpose S4x8192x128 [0, 2, 1] (shapeCast _ a3 shapeCasts_S512x8192_S4x128x8192) transposes_S4x128x8192_S4x8192x128_0_2_1) (truncf .bf16 (refP a0 a1 a4) bitsLt_bf16_f32)

theorem refP_apply (h : Fin 4) (q k : Fin 8192) : refP a0 a1 a4 (ix3 h q k)
    = if k.val ≤ q.val then Ideal.exp2 ((∑ d : Fin 192, a1 (ix3 h k d) * a0 (ix3 h d q)) * scale - a4 (ix3 h 0 q)) else 0 := by
  pointwise [refP]
  rw [select_sle k.val q.val (by omega) (by omega), bits_two, pow_two]
  by_cases hkq : k.val ≤ q.val
  · rw [if_pos hkq, if_pos hkq, mul_assoc, show Ideal.ofBits .f32 0x3D93CD3A#32 * Ideal.ofBits .f32 0x3FB8AA3B#32 = scale from scale_mul]
    simp only [mul_comm (a1 _)]
  · rw [if_neg hkq, if_neg hkq, show id (constant (F := Ideal) S_ .f32 0xFF800000#32) ix0 = ⊥ from bits_bot, EReal.bot_sub]
    rfl

theorem refDs_apply (h : Fin 4) (q k : Fin 8192) : refDs a0 a1 a2 a3 a4 a5 (ix3 h q k)
    = (refP a0 a1 a4 (ix3 h q k) * ((∑ e : Fin 128, a2 (ix3 h k e) * a3 (ix2 (hrow h e) q)) - a5 (ix3 h 0 q))) * sm := by
  unfold refDs
  generalize refP a0 a1 a4 = p
  pointwise
  simp only [hrow_eq, mul_comm (a2 _)]

theorem refDq_apply (h : Fin 4) (d : Fin 192) (q : Fin 8192) : refDq a0 a1 a2 a3 a4 a5 (ix3 h d q)
    = ∑ k : Fin 8192, a1 (ix3 h k d) * refDs a0 a1 a2 a3 a4 a5 (ix3 h q k) := by
  unfold refDq
  generalize refDs a0 a1 a2 a3 a4 a5 = p
  pointwise

theorem refDk_apply (h : Fin 4) (d : Fin 192) (k : Fin 8192) : refDk a0 a1 a2 a3 a4 a5 (ix3 h d k)
    = ∑ q : Fin 8192, a0 (ix3 h d q) * refDs a0 a1 a2 a3 a4 a5 (ix3 h q k) := by
  unfold refDk
  generalize refDs a0 a1 a2 a3 a4 a5 = p
  pointwise

theorem refDv_apply (h : Fin 4) (e : Fin 128) (k : Fin 8192) : refDv a0 a1 a3 a4 (ix3 h e k)
    = ∑ q : Fin 8192, a3 (ix2 (hrow h e) q) * refP a0 a1 a4 (ix3 h q k) := by
  unfold refDv
  generalize refP a0 a1 a4 = p
  pointwise
  simp only [hrow_eq]

end

/-! ## The two agree -/

section

open Cert.BwdIdeal Cert.BwdIdeal.Gen

variable (m : (ℓ : Loc nD τ sig) → Buf (Elt Ideal) ℓ) (c : Dev nD)

theorem p_eq (h : Fin 4) (q k : Fin 8192) : refP (A0 m c) (A1 m c) (A4 m c) (ix3 h q k) = PG m c h k q :=
  refP_apply _ _ _ h q k

theorem ds_eq (h : Fin 4) (q k : Fin 8192) :
    refDs (A0 m c) (A1 m c) (A2 m c) (A3 m c) (A4 m c) (A5 m c) (ix3 h q k) = DG m c h k q := by
  rw [refDs_apply, p_eq]; rfl

theorem dq_eq : refDq (A0 m c) (A1 m c) (A2 m c) (A3 m c) (A4 m c) (A5 m c) = (dats m 0 c).arrAt 7 cfg0.N := by
  refine funext fun i => ?_
  obtain ⟨h, d, q, rfl⟩ : ∃ (h : Fin 4) (d : Fin 192) (q : Fin 8192), i = ix3 h d q :=
    ⟨i 0, i 1, i 2, (ix3_eta (n0 := 4) (n1 := 192) (n2 := 8192) i).symm⟩
  refine ((refDq_apply _ _ _ _ _ _ h d q).trans (Finset.sum_congr rfl fun k _ => ?_)).trans (arr7 m c h d q).symm
  rw [ds_eq]

theorem dk_eq : refDk (A0 m c) (A1 m c) (A2 m c) (A3 m c) (A4 m c) (A5 m c) = (dats m 0 c).arrAt 8 cfg0.N := by
  refine funext fun i => ?_
  obtain ⟨h, d, k, rfl⟩ : ∃ (h : Fin 4) (d : Fin 192) (k : Fin 8192), i = ix3 h d k :=
    ⟨i 0, i 1, i 2, (ix3_eta (n0 := 4) (n1 := 192) (n2 := 8192) i).symm⟩
  refine ((refDk_apply _ _ _ _ _ _ h d k).trans (Finset.sum_congr rfl fun q _ => ?_)).trans (arr8 m c h d k).symm
  rw [ds_eq]

theorem dv_eq : refDv (A0 m c) (A1 m c) (A3 m c) (A4 m c) = (dats m 0 c).arrAt 9 cfg0.N := by
  refine funext fun i => ?_
  obtain ⟨h, e, k, rfl⟩ : ∃ (h : Fin 4) (e : Fin 128) (k : Fin 8192), i = ix3 h e k :=
    ⟨i 0, i 1, i 2, (ix3_eta (n0 := 4) (n1 := 128) (n2 := 8192) i).symm⟩
  refine ((refDv_apply _ _ _ _ h e k).trans (Finset.sum_congr rfl fun q _ => ?_)).trans (arr9 m c h e k).symm
  rw [p_eq]

end

open Cert.BwdIdeal.Gen in
theorem algebraic : Cert.algebraic_BwdIdeal_BwdRefIdeal := by
  intro m g m' g' _ hagree
  refine ⟨fun c => (dats m 0 c).arrAt 7 cfg0.N, fun c => (dats m 0 c).arrAt 8 cfg0.N, fun c => (dats m 0 c).arrAt 9 cfg0.N,
    run_arr m g, ?_⟩
  refine (θ_run _ _ _).mono (fun r h c => ?_) (Cert.BwdRefIdeal.Value.run (F := Ideal) m' g')
  obtain ⟨h0, h1, h2, hk⟩ := h c
  obtain ⟨e0, e1, e2, e3, e4, e5⟩ := hagree c
  refine ⟨h0.trans ?_, h1.trans ?_, h2.trans ?_, hk⟩
  · rw [e0, e1, e2, e3, e4, e5]; exact dq_eq m c
  · rw [e0, e1, e2, e3, e4, e5]; exact dk_eq m c
  · rw [e0, e1, e3, e4]; exact dv_eq m c

end Cert.BwdIdeal.Block

end
-- ==== Proof.lean ====
/-
  The proof of `Cert.Claim`: the frames of `Dx` and `Mid` are the generated ones, those of `Bwd` and the value claims are proved in
  the modules imported here.
-/
module

public import proofs.«01_k».proof.Defs
public import proofs.«01_k».proof.Proof.Gen.Dx.Frame
public import proofs.«01_k».proof.Proof.DxClaim
public import proofs.«01_k».proof.Proof.MidClaim
public import proofs.«01_k».proof.Proof.Gen.MidRefIdeal.Value
public import proofs.«01_k».proof.Proof.BwdClaim

@[expose] public section

noncomputable section

namespace Cert.Proof

open Idealize.ShloMosaic Idealize.SL.Sem

theorem claim : Cert.Claim := ⟨Cert.Mid.Gen.facts, Cert.MidIdeal.Gen.facts, Cert.MidRefIdeal.Gen.facts,
  Cert.Bwd.Gen.facts, Cert.BwdIdeal.Gen.facts, Cert.BwdRefIdeal.Gen.facts,
  Cert.Dx.Gen.facts, Cert.DxIdeal.Gen.facts, Cert.DxRefIdeal.Gen.facts,
  fun m ρ _ => Cert.Mid.Gen.frame m ρ, fun m ρ _ => Cert.MidIdeal.Gen.frame m ρ, fun m ρ _ => Cert.MidRefIdeal.Gen.frame m ρ,
  fun m ρ _ => Cert.Bwd.Hand.frame m ρ, fun m ρ _ => Cert.BwdIdeal.Block.frame m ρ, Cert.BwdIdeal.Block.quiescent_ref,
  fun m ρ _ => Cert.Dx.Gen.frame m ρ, fun m ρ _ => Cert.DxIdeal.Gen.frame m ρ, Cert.DxIdeal.Block.quiescent_ref,
  Cert.MidIdeal.Block.preserves, Cert.MidIdeal.Block.algebraic,
  Cert.BwdIdeal.Block.preserves, Cert.BwdIdeal.Block.algebraic,
  Cert.DxIdeal.Block.preserves, Cert.DxIdeal.Block.algebraic⟩

end Cert.Proof

end
